-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36_0) = v0 c
          ∧ r.2.mem ((c.tc : Thread Cert.ReferenceIdeal.nD Cert.ReferenceIdeal.τ).loc Cert.ReferenceIdeal.main_v36_1) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x3584 : Shape := ⟨3, ![1, 3072, 3584]⟩
abbrev S4096x3584 : Shape := ⟨2, ![4096, 3584]⟩
abbrev S4096 : Shape := ⟨1, ![4096]⟩
abbrev S256x256 : Shape := ⟨2, ![256, 256]⟩
abbrev S1x4096 : Shape := ⟨2, ![1, 4096]⟩
abbrev S384x8x4096 : Shape := ⟨3, ![384, 8, 4096]⟩
abbrev S1x3072 : Shape := ⟨2, ![1, 3072]⟩
abbrev S1x512x3584 : Shape := ⟨3, ![1, 512, 3584]⟩
abbrev S512x3584 : Shape := ⟨2, ![512, 3584]⟩
abbrev S1x512 : Shape := ⟨2, ![1, 512]⟩
abbrev S64x8x512 : Shape := ⟨3, ![64, 8, 512]⟩
abbrev S512x1 : Shape := ⟨2, ![512, 1]⟩
abbrev S1x128x3584 : Shape := ⟨3, ![1, 128, 3584]⟩
abbrev S128x3584 : Shape := ⟨2, ![128, 3584]⟩
abbrev S128x256 : Shape := ⟨2, ![128, 256]⟩
abbrev S1792x256 : Shape := ⟨2, ![1792, 256]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S512x512 : Shape := ⟨2, ![512, 512]⟩
abbrev S1x3072x4096 : Shape := ⟨3, ![1, 3072, 4096]⟩
abbrev S1x3072x1 : Shape := ⟨3, ![1, 3072, 1]⟩

abbrev nBuf : Space → Nat
  | .hbm => 10
  | .vmem => 16
  | .smem => 0
  | _ => 0

abbrev bufTy : (tb : Table) → Fin (tcTables nBuf tb) → BufTy
  | .hbm, ⟨0, _⟩ => ⟨S1x3072x3584, .bf16⟩
  | .hbm, ⟨1, _⟩ => ⟨S4096x3584, .i8⟩
  | .hbm, ⟨2, _⟩ => ⟨S4096, .f32⟩
  | .hbm, ⟨3, _⟩ => ⟨S256x256, .bf16⟩
  | .hbm, ⟨4, _⟩ => ⟨S1x4096, .f32⟩
  | .hbm, ⟨5, _⟩ => ⟨S384x8x4096, .bf16⟩
  | .hbm, ⟨6, _⟩ => ⟨S1x3072x3584, .i8⟩
  | .hbm, ⟨7, _⟩ => ⟨S1x3072, .f32⟩
  | .hbm, ⟨8, _⟩ => ⟨S1x3072x4096, .bf16⟩
  | .hbm, ⟨9, _⟩ => ⟨S1x3072x1, .f32⟩
  | .local _ .vmem, ⟨0, _⟩ => ⟨S1x512x3584, .bf16⟩
  | .local _ .vmem, ⟨1, _⟩ => ⟨S1x512x3584, .bf16⟩
  | .local _ .vmem, ⟨2, _⟩ => ⟨S256x256, .bf16⟩
  | .local _ .vmem, ⟨3, _⟩ => ⟨S512x3584, .i8⟩
  | .local _ .vmem, ⟨4, _⟩ => ⟨S512x3584, .i8⟩
  | .local _ .vmem, ⟨5, _⟩ => ⟨S1x512, .f32⟩
  | .local _ .vmem, ⟨6, _⟩ => ⟨S1x512, .f32⟩
  | .local _ .vmem, ⟨7, _⟩ => ⟨S64x8x512, .bf16⟩
  | .local _ .vmem, ⟨8, _⟩ => ⟨S64x8x512, .bf16⟩
  | .local _ .vmem, ⟨9, _⟩ => ⟨S1x512x3584, .i8⟩
  | .local _ .vmem, ⟨10, _⟩ => ⟨S1x512x3584, .i8⟩
  | .local _ .vmem, ⟨11, _⟩ => ⟨S1x512, .f32⟩
  | .local _ .vmem, ⟨12, _⟩ => ⟨S1x512, .f32⟩
  | .local _ .vmem, ⟨13, _⟩ => ⟨S4096x3584, .bf16⟩
  | .local _ .vmem, ⟨14, _⟩ => ⟨S512x3584, .bf16⟩
  | .local _ .vmem, ⟨15, _⟩ => ⟨S512x1, .f32⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg1 : BitVec 32 := BitVec.ofNat 32 (i 1).val
  let c512_i32_14 : BitVec 32 := 512#32
  let v23 : BitVec 32 := Scalar.muli arg1 c512_i32_14
  let v24 : Index := Scalar.indexCast v23
  let c0_15 : Index := 0#32
  ![v24.toNat, 0]
def k0_off2 (i : grid0.Coords) : Fin 2 → Nat :=
  let arg1 : BitVec 32 := BitVec.ofNat 32 (i 1).val
  let c512_i32 : BitVec 32 := 512#32
  let v7 : BitVec 32 := Scalar.muli arg1 c512_i32
  let v8 : Index := Scalar.indexCast v7
  let c0_4 : Index := 0#32
  ![v8.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3584 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S1x3072x3584 : Shape := ⟨3, ![1, 3072, 3584]⟩
abbrev S4096x3584 : Shape := ⟨2, ![4096, 3584]⟩
abbrev S4096 : Shape := ⟨1, ![4096]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S1x3072x28x128 : Shape := ⟨4, ![1, 3072, 28, 128]⟩
abbrev S1x3072 : Shape := ⟨2, ![1, 3072]⟩
abbrev S1x3072x1 : Shape := ⟨3, ![1, 3072, 1]⟩
abbrev S3072x3584 : Shape := ⟨2, ![3072, 3584]⟩
abbrev S3072x1 : Shape := ⟨2, ![3072, 1]⟩
abbrev S1x4096 : Shape := ⟨2, ![1, 4096]⟩
abbrev S1x3072x4096 : Shape := ⟨3, ![1, 3072, 4096]⟩
abbrev S3072x4096 : Shape := ⟨2, ![3072, 4096]⟩

abbrev nBuf : Space → Nat
  | .hbm => 70
  | .vmem => 6
  | .smem => 0
  | _ => 0

abbrev bufTy : (tb : Table) → Fin (tcTables nBuf tb) → BufTy
  | .hbm, ⟨0, _⟩ => ⟨S1x3072x3584, .bf16⟩
  | .hbm, ⟨1, _⟩ => ⟨S4096x3584, .i8⟩
  | .hbm, ⟨2, _⟩ => ⟨S4096, .f32⟩
  | .hbm, ⟨3, _⟩ => ⟨S1x3072x3584, .f32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S1x2, .f32⟩
  | .hbm, ⟨8, _⟩ => ⟨S1x2, .f32⟩
  | .hbm, ⟨9, _⟩ => ⟨S2x2, .f32⟩
  | .hbm, ⟨10, _⟩ => ⟨S2x2, .f32⟩
  | .hbm, ⟨11, _⟩ => ⟨S2x4, .f32⟩
  | .hbm, ⟨12, _⟩ => ⟨S2x4, .f32⟩
  | .hbm, ⟨13, _⟩ => ⟨S4x4, .f32⟩
  | .hbm, ⟨14, _⟩ => ⟨S4x4, .f32⟩
  | .hbm, ⟨15, _⟩ => ⟨S4x8, .f32⟩
  | .hbm, ⟨16, _⟩ => ⟨S4x8, .f32⟩
  | .hbm, ⟨17, _⟩ => ⟨S8x8, .f32⟩
  | .hbm, ⟨18, _⟩ => ⟨S8x8, .f32⟩
  | .hbm, ⟨19, _⟩ => ⟨S8x16, .f32⟩
  | .hbm, ⟨20, _⟩ => ⟨S8x16, .f32⟩
  | .hbm, ⟨21, _⟩ => ⟨S16x16, .f32⟩
  | .hbm, ⟨22, _⟩ => ⟨S16x16, .f32⟩
  | .hbm, ⟨23, _⟩ => ⟨S16x32, .f32⟩
  | .hbm, ⟨24, _⟩ => ⟨S16x32, .f32⟩
  | .hbm, ⟨25, _⟩ => ⟨S32x32, .f32⟩
  | .hbm, ⟨26, _⟩ => ⟨S32x32, .f32⟩
  | .hbm, ⟨27, _⟩ => ⟨S32x64, .f32⟩
  | .hbm, ⟨28, _⟩ => ⟨S32x64, .f32⟩
  | .hbm, ⟨29, _⟩ => ⟨S64x64, .f32⟩
  | .hbm, ⟨30, _⟩ => ⟨S64x64, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S1x3072x28x128, .f32⟩
  | .hbm, ⟨38, _⟩ => ⟨S1x3072x28x128, .f32⟩
  | .hbm, ⟨39, _⟩ => ⟨S1x3072x3584, .f32⟩
  | .hbm, ⟨40, _⟩ => ⟨S1x3072x3584, .f32⟩
  | .hbm, ⟨41, _⟩ => ⟨S_, .f32⟩
  | .hbm, ⟨42, _⟩ => ⟨S1x3072, .f32⟩
  | .hbm, ⟨43, _⟩ => ⟨S1x3072x1, .f32⟩
  | .hbm, ⟨44, _⟩ => ⟨S_, .f32⟩
  | .hbm, ⟨45, _⟩ => ⟨S1x3072x1, .f32⟩
  | .hbm, ⟨46, _⟩ => ⟨S1x3072x1, .i1⟩
  | .hbm, ⟨47, _⟩ => ⟨S_, .f32⟩
  | .hbm, ⟨48, _⟩ => ⟨S1x3072x1, .f32⟩
  | .hbm, ⟨49, _⟩ => ⟨S1x3072x1, .f32⟩
  | .hbm, ⟨50, _⟩ => ⟨S_, .f32⟩
  | .hbm, ⟨51, _⟩ => ⟨S_, .f32⟩
  | .hbm, ⟨52, _⟩ => ⟨S1x3072x1, .f32⟩
  | .hbm, ⟨53, _⟩ => ⟨S1x3072x1, .f32⟩
  | .hbm, ⟨54, _⟩ => ⟨S1x3072x3584, .f32⟩
  | .hbm, ⟨55, _⟩ => ⟨S1x3072x3584, .f32⟩
  | .hbm, ⟨56, _⟩ => ⟨S1x3072x3584, .f32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S1x3072x3584, .f32⟩
  | .hbm, ⟨61, _⟩ => ⟨S1x3072x3584, .f32⟩
  | .hbm, ⟨62, _⟩ => ⟨S_, .f32⟩
  | .hbm, ⟨63, _⟩ => ⟨S1x3072x3584, .f32⟩
  | .hbm, ⟨64, _⟩ => ⟨S1x3072x3584, .f32⟩
  | .hbm, ⟨65, _⟩ => ⟨S3072x3584, .f32⟩
  | .hbm, ⟨66, _⟩ => ⟨S3072x1, .f32⟩
  | .hbm, ⟨67, _⟩ => ⟨S1x4096, .f32⟩
  | .hbm, ⟨68, _⟩ => ⟨S1x3072x4096, .bf16⟩
  | .hbm, ⟨69, _⟩ => ⟨S1x3072x3584, .i8⟩
  | .local _ .vmem, ⟨0, _⟩ => ⟨S3072x3584, .f32⟩
  | .local _ .vmem, ⟨1, _⟩ => ⟨S3072x1, .f32⟩
  | .local _ .vmem, ⟨2, _⟩ => ⟨S4096x3584, .i8⟩
  | .local _ .vmem, ⟨3, _⟩ => ⟨S1x4096, .f32⟩
  | .local _ .vmem, ⟨4, _⟩ => ⟨S1x3072x4096, .bf16⟩
  | .local _ .vmem, ⟨5, _⟩ => ⟨S1x3072x3584, .i8⟩
  | _, _ => ⟨S1x3072x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_v1 : Ref sig .tc := ⟨.hbm, 16, rfl⟩
abbrev main_v7 : Ref sig .tc := ⟨.hbm, 17, rfl⟩
abbrev main_v8 : Ref sig .tc := ⟨.hbm, 18, rfl⟩
abbrev main_call3_v0 : Ref sig .tc := ⟨.hbm, 19, rfl⟩
abbrev main_call3_v1 : Ref sig .tc := ⟨.hbm, 20, rfl⟩
abbrev main_v9 : Ref sig .tc := ⟨.hbm, 21, rfl⟩
abbrev main_v10 : Ref sig .tc := ⟨.hbm, 22, rfl⟩
abbrev main_call4_v0 : Ref sig .tc := ⟨.hbm, 23, rfl⟩
abbrev main_call4_v1 : Ref sig .tc := ⟨.hbm, 24, rfl⟩
abbrev main_v11 : Ref sig .tc := ⟨.hbm, 25, rfl⟩
abbrev main_v12 : Ref sig .tc := ⟨.hbm, 26, rfl⟩
abbrev main_call5_v0 : Ref sig .tc := ⟨.hbm, 27, rfl⟩
abbrev main_call5_v1 : Ref sig .tc := ⟨.hbm, 28, rfl⟩
abbrev main_v13 : Ref sig .tc := ⟨.hbm, 29, rfl⟩
abbrev main_v14 : Ref sig .tc := ⟨.hbm, 30, rfl⟩
abbrev main_call6_v0 : Ref sig .tc := ⟨.hbm, 31, rfl⟩
abbrev main_call6_v1 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_call7_v0 : Ref sig .tc := ⟨.hbm, 51, rfl⟩
abbrev main_call7_v1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c : Ref sig .tc := ⟨.hbm, 57, rfl⟩
abbrev main_c_5 : Ref sig .tc := ⟨.hbm, 58, rfl⟩
abbrev main_call9_v0 : Ref sig .tc := ⟨.hbm, 59, rfl⟩
abbrev main_call9_v1 : Ref sig .tc := ⟨.hbm, 60, rfl⟩
abbrev main_call9_v2 : Ref sig .tc := ⟨.hbm, 61, rfl⟩
abbrev main_call9_v3 : Ref sig .tc := ⟨.hbm, 62, rfl⟩
abbrev main_call9_v4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Cond.lean ====
/-
When the kernel's body takes its two conditionals, in terms of the grid point: the tile of rows is
quantised at the first column block of each row tile, and a block of weights is widened during the
first row tile only.
-/
module

public import proofs.«01_k».proof.Proof.Gen.KernelIdeal.Frame
public import proofs.«01_k».proof.Proof.Gen.KernelIdeal.Skeleton

@[expose] public section

noncomputable section

namespace Cert.KernelIdeal.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds

/-- The condition of the first `scf.if`, from the grid coordinates. -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 8 — by arithmetic of the point. -/
theorem hcond0_1 : ∀ t : Fin cfg0.N, cond0_1 (grid0.coords t) ↔ t.val < 8 :=
  (fun t => by
    have ht : t.val < 48 := Nat.lt_of_lt_of_eq t.isLt N_0
    have e0 : (grid0.coords t 0).val = t.val / 8 % 6 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val < 8)

end Cert.KernelIdeal.Gen

end
-- ==== Proof.Block.lean ====
/-
What one grid point computes from the blocks it holds: a piece of 128 rows quantised, the whole tile of
512 rows put together from its four pieces, the widened weights, and the block of the result.
-/
module

public import proofs.«01_k».proof.Proof.Cond
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

variable {F : FTy → Type} [FloatOps F]

/-! ## One piece of 128 rows -/

/-- The 128 rows rotated: their fourteen chunks of 256 columns stacked one above the other, times the
    256×256 sign matrix, times the scale. -/
def rot (x : Vec F S1x128x3584 .bf16) (h : Vec F S256x256 .bf16) : FVec F S1792x256 .f32 := k0_pay8 x h

/-- Columns 0 to 255 of the rotated rows. -/
def chunk0 (y : FVec F S1792x256 .f32) : FVec F S128x256 .f32 := extractStridedSlice S128x256 ![0, 0] y slices_S1792x256_o0_0_S128x256
/-- Columns 256 to 511 of the rotated rows. -/
def chunk1 (y : FVec F S1792x256 .f32) : FVec F S128x256 .f32 := extractStridedSlice S128x256 ![128, 0] y slices_S1792x256_o128_0_S128x256
/-- Columns 512 to 767 of the rotated rows. -/
def chunk2 (y : FVec F S1792x256 .f32) : FVec F S128x256 .f32 := extractStridedSlice S128x256 ![256, 0] y slices_S1792x256_o256_0_S128x256
/-- Columns 768 to 1023 of the rotated rows. -/
def chunk3 (y : FVec F S1792x256 .f32) : FVec F S128x256 .f32 := extractStridedSlice S128x256 ![384, 0] y slices_S1792x256_o384_0_S128x256
/-- Columns 1024 to 1279 of the rotated rows. -/
def chunk4 (y : FVec F S1792x256 .f32) : FVec F S128x256 .f32 := extractStridedSlice S128x256 ![512, 0] y slices_S1792x256_o512_0_S128x256
/-- Columns 1280 to 1535 of the rotated rows. -/
def chunk5 (y : FVec F S1792x256 .f32) : FVec F S128x256 .f32 := extractStridedSlice S128x256 ![640, 0] y slices_S1792x256_o640_0_S128x256
/-- Columns 1536 to 1791 of the rotated rows. -/
def chunk6 (y : FVec F S1792x256 .f32) : FVec F S128x256 .f32 := extractStridedSlice S128x256 ![768, 0] y slices_S1792x256_o768_0_S128x256
/-- Columns 1792 to 2047 of the rotated rows. -/
def chunk7 (y : FVec F S1792x256 .f32) : FVec F S128x256 .f32 := extractStridedSlice S128x256 ![896, 0] y slices_S1792x256_o896_0_S128x256
/-- Columns 2048 to 2303 of the rotated rows. -/
def chunk8 (y : FVec F S1792x256 .f32) : FVec F S128x256 .f32 := extractStridedSlice S128x256 ![1024, 0] y slices_S1792x256_o1024_0_S128x256
/-- Columns 2304 to 2559 of the rotated rows. -/
def chunk9 (y : FVec F S1792x256 .f32) : FVec F S128x256 .f32 := extractStridedSlice S128x256 ![1152, 0] y slices_S1792x256_o1152_0_S128x256
/-- Columns 2560 to 2815 of the rotated rows. -/
def chunk10 (y : FVec F S1792x256 .f32) : FVec F S128x256 .f32 := extractStridedSlice S128x256 ![1280, 0] y slices_S1792x256_o1280_0_S128x256
/-- Columns 2816 to 3071 of the rotated rows. -/
def chunk11 (y : FVec F S1792x256 .f32) : FVec F S128x256 .f32 := extractStridedSlice S128x256 ![1408, 0] y slices_S1792x256_o1408_0_S128x256
/-- Columns 3072 to 3327 of the rotated rows. -/
def chunk12 (y : FVec F S1792x256 .f32) : FVec F S128x256 .f32 := extractStridedSlice S128x256 ![1536, 0] y slices_S1792x256_o1536_0_S128x256
/-- Columns 3328 to 3583 of the rotated rows. -/
def chunk13 (y : FVec F S1792x256 .f32) : FVec F S128x256 .f32 := extractStridedSlice S128x256 ![1664, 0] y slices_S1792x256_o1664_0_S128x256

/-- Per row and lane, the largest magnitude over the fourteen chunks. -/
def amax (y : FVec F S1792x256 .f32) : FVec F S128x256 .f32 :=
  maximumf (maximumf (maximumf (maximumf (maximumf (maximumf (maximumf (maximumf (maximumf (maximumf (maximumf (maximumf (maximumf (absf (chunk0 y)) (absf (chunk1 y))) (absf (chunk2 y))) (absf (chunk3 y))) (absf (chunk4 y))) (absf (chunk5 y))) (absf (chunk6 y))) (absf (chunk7 y))) (absf (chunk8 y))) (absf (chunk9 y))) (absf (chunk10 y))) (absf (chunk11 y))) (absf (chunk12 y))) (absf (chunk13 y))

/-- Per row, the largest magnitude. -/
def amaxRow (y : FVec F S1792x256 .f32) : FVec F S128x1 .f32 :=
  shapeCast S128x1 (multiReduction .maximumf [1] S128 (amax y) 0xFF800000#32 reduces_S128x256_S128 (.inl rfl) rfl) shapeCasts_S128_S128x1

/-- Per row, the quantisation step: a seventh of the largest magnitude where that is positive, else one. -/
def scl (y : FVec F S1792x256 .f32) : FVec F S128x1 .f32 :=
  select (cmpf .ogt (amaxRow y) (broadcast S128x1 (Scalar.ofBits .f32 0x00000000#32)))
    (divf (amaxRow y) (broadcast S128x1 (Scalar.ofBits .f32 0x40E00000#32))) (broadcast S128x1 (Scalar.ofBits .f32 0x3F800000#32))

/-- One chunk quantised: divided by the row's step, rounded, clipped to [-8, 7]. -/
def qch (c : FVec F S128x256 .f32) (s : FVec F S128x1 .f32) : FVec F S128x256 .f32 :=
  minimumf (broadcast S128x256 (Scalar.sitofp .f32 7#32))
    (maximumf (broadcast S128x256 (Scalar.sitofp .f32 4294967288#32)) (roundeven (divf c (broadcastTo S128x256 s broadcasts_S128x1_S128x256))))

/-- The piece's codes, as floats: the fourteen quantised chunks side by side. -/
def codesF (y : FVec F S1792x256 .f32) : FVec F S128x3584 .f32 :=
  concatenate S128x3584 1 [⟨S128x256, qch (chunk0 y) (scl y)⟩, ⟨S128x256, qch (chunk1 y) (scl y)⟩, ⟨S128x256, qch (chunk2 y) (scl y)⟩, ⟨S128x256, qch (chunk3 y) (scl y)⟩, ⟨S128x256, qch (chunk4 y) (scl y)⟩, ⟨S128x256, qch (chunk5 y) (scl y)⟩, ⟨S128x256, qch (chunk6 y) (scl y)⟩, ⟨S128x256, qch (chunk7 y) (scl y)⟩, ⟨S128x256, qch (chunk8 y) (scl y)⟩, ⟨S128x256, qch (chunk9 y) (scl y)⟩, ⟨S128x256, qch (chunk10 y) (scl y)⟩, ⟨S128x256, qch (chunk11 y) (scl y)⟩, ⟨S128x256, qch (chunk12 y) (scl y)⟩, ⟨S128x256, qch (chunk13 y) (scl y)⟩] concatenates_S128x256_S128x256_S128x256_S128x256_S128x256_S128x256_S128x256_S128x256_S128x256_S128x256_S128x256_S128x256_S128x256_S128x256_S128x3584_d1

/-- The piece's codes as bytes, -/
def xcP (x : Vec F S1x128x3584 .bf16) (h : Vec F S256x256 .bf16) : IVec S1x128x3584 8 :=
  shapeCast S1x128x3584 (fptosi 8 (codesF (rot x h))) shapeCasts_S128x3584_S1x128x3584
/-- as operands of the matrix product, -/
def cbP (x : Vec F S1x128x3584 .bf16) (h : Vec F S256x256 .bf16) : FVec F S128x3584 .bf16 :=
  shapeCast S128x3584 (truncf .bf16 (codesF (rot x h)) bitsLt_bf16_f32) shapeCasts_S128x3584_S128x3584
/-- and its steps, as a column -/
def xsP (x : Vec F S1x128x3584 .bf16) (h : Vec F S256x256 .bf16) : FVec F S128x1 .f32 :=
  shapeCast S128x1 (scl (rot x h)) shapeCasts_S128x1_S128x1
/-- and as a row. -/
def xrP (x : Vec F S1x128x3584 .bf16) (h : Vec F S256x256 .bf16) : FVec F S1x128 .f32 :=
  extractStridedSlice S1x128 ![0, 0] (transpose S128x128 [1, 0] (broadcastTo S128x128 (shapeCast S128x1 (scl (rot x h)) shapeCasts_S128x1_S128x1) broadcasts_S128x1_S128x128) transposes_S128x128_p1_0_S128x128) slices_S128x128_o0_0_S1x128

/-! ## A tile of 512 rows -/

/-- Rows 128p to 128p + 127 of the tile. -/
def rowsX (x : Vec F S1x512x3584 .bf16) (p : Fin 4) : Vec F S1x128x3584 .bf16 :=
  fun i => x (ix3 0 ⟨128 * p.val + (i 1).val, by have h : (i 1).val < 128 := (i 1).isLt; omega⟩ (i 2))

/-- The piece a row of the tile lies in, -/
def pOf (r : Fin 512) : Fin 4 := ⟨r.val / 128, by omega⟩
/-- and its place there. -/
def rOf (r : Fin 512) : Fin 128 := ⟨r.val % 128, by omega⟩

/-- The tile's codes as bytes, -/
def xcB (x : Vec F S1x512x3584 .bf16) (h : Vec F S256x256 .bf16) : Vec F S1x512x3584 .i8 :=
  fun j => xcP (rowsX x (pOf (j 1))) h (ix3 0 (rOf (j 1)) (j 2))
/-- as operands of the matrix product, -/
def cbB (x : Vec F S1x512x3584 .bf16) (h : Vec F S256x256 .bf16) : Vec F S512x3584 .bf16 :=
  fun j => cbP (rowsX x (pOf (j 0))) h (ix2 (rOf (j 0)) (j 1))
/-- and its steps, as a column -/
def xsB (x : Vec F S1x512x3584 .bf16) (h : Vec F S256x256 .bf16) : Vec F S512x1 .f32 :=
  fun j => xsP (rowsX x (pOf (j 0))) h (ix2 (rOf (j 0)) (j 1))
/-- and as a row. -/
def xrB (x : Vec F S1x512x3584 .bf16) (h : Vec F S256x256 .bf16) : Vec F S1x512 .f32 :=
  fun j => xrP (rowsX x (pOf (j 1))) h (ix2 0 (rOf (j 1)))

/-! ## The weights and the result -/

/-- Rows 512n to 512n + 511 of the widened weights. -/
def rowsW (w : Vec F S4096x3584 .bf16) (n : Fin 8) : Vec F S512x3584 .bf16 :=
  fun i => w (ix2 ⟨512 * n.val + (i 0).val, by have h : (i 0).val < 512 := (i 0).isLt; omega⟩ (i 1))

/-- The widened weights with rows 512n to 512n + 511 replaced by a block of weights, widened. -/
def putW (w : Vec F S4096x3584 .bf16) (n : Fin 8) (b : Vec F S512x3584 .i8) : Vec F S4096x3584 .bf16 :=
  fun j => if (j 0).val / 512 = n.val then k0_pay6 b (ix2 ⟨(j 0).val % 512, by omega⟩ (j 1)) else w j

end Cert.KernelIdeal.Hand

end
-- ==== Proof.Reads.lean ====
/-
What the stores of one grid point leave, and what its loads read, in terms of the block functions of
the block module.
-/
module

public import proofs.«01_k».proof.Proof.Block
public import Idealize.ShloMosaic.Lib.WritesUnit
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

variable {F : FTy → Type} [FloatOps F]

/-- The tile's codes as bytes, at a place given by its piece and its place there. -/
theorem xcB_at (x : Vec F S1x512x3584 .bf16) (h : Vec F S256x256 .bf16) (k : Fin 4) (y : S1x512x3584.Idx) (z : S1x128x3584.Idx)
    (ek : (y 1).val = 128 * k.val + (z 1).val) (e2 : (y 2).val = (z 2).val) : xcP (rowsX x k) h z = xcB x h y := by
  have hz : (z 1).val < 128 := (z 1).isLt
  have hp : pOf (y 1) = k := Fin.ext (by show (y 1).val / 128 = _; omega)
  have hr : ix3 0 (rOf (y 1)) (y 2) = z := by
    funext a
    match a with
    | ⟨0, _⟩ => exact Fin.ext (by have : (z 0).val < 1 := (z 0).isLt; show 0 = (z 0).val; omega)
    | ⟨1, _⟩ => exact Fin.ext (by show (y 1).val % 128 = (z 1).val; omega)
    | ⟨2, _⟩ => exact Fin.ext e2
  exact (congrArg₂ (fun (p : Fin 4) (j : S1x128x3584.Idx) => xcP (rowsX x p) h j) hp hr).symm

/-- Four stores of pieces leave the tile's codes as bytes. -/
theorem read_xc {sig' : RefSig} {κ : Kind} {sp : Space} (v : View sig' κ sp S1x512x3584 .i8) (f : v.ty.Contents (Elt F))
    (x : Vec F S1x512x3584 .bf16) (h : Vec F S256x256 .bf16)
    (inb0 : ∀ a, ![0, 0, 0] a + S1x128x3584.size a ≤ S1x512x3584.size a) (inb1 : ∀ a, ![0, 128, 0] a + S1x128x3584.size a ≤ S1x512x3584.size a) (inb2 : ∀ a, ![0, 256, 0] a + S1x128x3584.size a ≤ S1x512x3584.size a) (inb3 : ∀ a, ![0, 384, 0] a + S1x128x3584.size a ≤ S1x512x3584.size a)
    (p0 p1 p2 p3 : Vec F S1x128x3584 .i8)
    (h0 : p0 = xcP (rowsX x 0) h) (h1 : p1 = xcP (rowsX x 1) h) (h2 : p2 = xcP (rowsX x 2) h) (h3 : p3 = xcP (rowsX x 3) h) :
    v.read (Elt F) (v.writes (Elt F) f [⟨Rect.unit ![0, 384, 0] S1x128x3584.size inb3, p3⟩,
      ⟨Rect.unit ![0, 256, 0] S1x128x3584.size inb2, p2⟩,
      ⟨Rect.unit ![0, 128, 0] S1x128x3584.size inb1, p1⟩,
      ⟨Rect.unit ![0, 0, 0] S1x128x3584.size inb0, p0⟩]) = xcB x h := by
  subst h0 h1 h2 h3
  funext y
  refine View.read_writes_apply_of_pieces v f (xcB x h) _ ?_ y (View.cover_of_tiledL _ ![1, 128, 3584] (by sl_kernel_rfl) y)
  intro p hp
  simp only [List.mem_cons, List.not_mem_nil, or_false] at hp
  rcases hp with rfl | rfl | rfl | rfl
  · exact fun z => xcB_at x h 3 _ z (by show 384 + 1 * (z 1).val = _; omega) (by show 0 + 1 * (z 2).val = _; omega)
  · exact fun z => xcB_at x h 2 _ z (by show 256 + 1 * (z 1).val = _; omega) (by show 0 + 1 * (z 2).val = _; omega)
  · exact fun z => xcB_at x h 1 _ z (by show 128 + 1 * (z 1).val = _; omega) (by show 0 + 1 * (z 2).val = _; omega)
  · exact fun z => xcB_at x h 0 _ z (by show 0 + 1 * (z 1).val = _; omega) (by show 0 + 1 * (z 2).val = _; omega)

/-- The tile's codes as operands, at a place given by its piece and its place there. -/
theorem cbB_at (x : Vec F S1x512x3584 .bf16) (h : Vec F S256x256 .bf16) (k : Fin 4) (y : S512x3584.Idx) (z : S128x3584.Idx)
    (ek : (y 0).val = 128 * k.val + (z 0).val) (e1 : (y 1).val = (z 1).val) : cbP (rowsX x k) h z = cbB x h y := by
  have hz : (z 0).val < 128 := (z 0).isLt
  have hp : pOf (y 0) = k := Fin.ext (by show (y 0).val / 128 = _; omega)
  have hr : ix2 (rOf (y 0)) (y 1) = z := by
    funext a
    match a with
    | ⟨0, _⟩ => exact Fin.ext (by show (y 0).val % 128 = (z 0).val; omega)
    | ⟨1, _⟩ => exact Fin.ext e1
  exact (congrArg₂ (fun (p : Fin 4) (j : S128x3584.Idx) => cbP (rowsX x p) h j) hp hr).symm

/-- Four stores of pieces leave the tile's codes as operands. -/
theorem read_cb {sig' : RefSig} {κ : Kind} {sp : Space} (v : View sig' κ sp S512x3584 .bf16) (f : v.ty.Contents (Elt F))
    (x : Vec F S1x512x3584 .bf16) (h : Vec F S256x256 .bf16)
    (inb0 : ∀ a, ![0, 0] a + S128x3584.size a ≤ S512x3584.size a) (inb1 : ∀ a, ![128, 0] a + S128x3584.size a ≤ S512x3584.size a) (inb2 : ∀ a, ![256, 0] a + S128x3584.size a ≤ S512x3584.size a) (inb3 : ∀ a, ![384, 0] a + S128x3584.size a ≤ S512x3584.size a)
    (p0 p1 p2 p3 : Vec F S128x3584 .bf16)
    (h0 : p0 = cbP (rowsX x 0) h) (h1 : p1 = cbP (rowsX x 1) h) (h2 : p2 = cbP (rowsX x 2) h) (h3 : p3 = cbP (rowsX x 3) h) :
    v.read (Elt F) (v.writes (Elt F) f [⟨Rect.unit ![384, 0] S128x3584.size inb3, p3⟩,
      ⟨Rect.unit ![256, 0] S128x3584.size inb2, p2⟩,
      ⟨Rect.unit ![128, 0] S128x3584.size inb1, p1⟩,
      ⟨Rect.unit ![0, 0] S128x3584.size inb0, p0⟩]) = cbB x h := by
  subst h0 h1 h2 h3
  funext y
  refine View.read_writes_apply_of_pieces v f (cbB x h) _ ?_ y (View.cover_of_tiledL _ ![128, 3584] (by sl_kernel_rfl) y)
  intro p hp
  simp only [List.mem_cons, List.not_mem_nil, or_false] at hp
  rcases hp with rfl | rfl | rfl | rfl
  · exact fun z => cbB_at x h 3 _ z (by show 384 + 1 * (z 0).val = _; omega) (by show 0 + 1 * (z 1).val = _; omega)
  · exact fun z => cbB_at x h 2 _ z (by show 256 + 1 * (z 0).val = _; omega) (by show 0 + 1 * (z 1).val = _; omega)
  · exact fun z => cbB_at x h 1 _ z (by show 128 + 1 * (z 0).val = _; omega) (by show 0 + 1 * (z 1).val = _; omega)
  · exact fun z => cbB_at x h 0 _ z (by show 0 + 1 * (z 0).val = _; omega) (by show 0 + 1 * (z 1).val = _; omega)

/-- A load of all of it after those stores. -/
theorem readCov_cb {sig' : RefSig} {κ : Kind} {sp : Space} (v : View sig' κ sp S512x3584 .bf16)
    (x : Vec F S1x512x3584 .bf16) (h : Vec F S256x256 .bf16)
    (inb0 : ∀ a, ![0, 0] a + S128x3584.size a ≤ S512x3584.size a) (inb1 : ∀ a, ![128, 0] a + S128x3584.size a ≤ S512x3584.size a) (inb2 : ∀ a, ![256, 0] a + S128x3584.size a ≤ S512x3584.size a) (inb3 : ∀ a, ![384, 0] a + S128x3584.size a ≤ S512x3584.size a) (inb : ∀ a, ![0, 0] a + S512x3584.size a ≤ S512x3584.size a)
    (p0 p1 p2 p3 : Vec F S128x3584 .bf16)
    (h0 : p0 = cbP (rowsX x 0) h) (h1 : p1 = cbP (rowsX x 1) h) (h2 : p2 = cbP (rowsX x 2) h) (h3 : p3 = cbP (rowsX x 3) h) :
    v.readCov (Val := Elt F) [⟨Rect.unit ![384, 0] S128x3584.size inb3, p3⟩,
      ⟨Rect.unit ![256, 0] S128x3584.size inb2, p2⟩,
      ⟨Rect.unit ![128, 0] S128x3584.size inb1, p1⟩,
      ⟨Rect.unit ![0, 0] S128x3584.size inb0, p0⟩] (Rect.unit ![0, 0] S512x3584.size inb).toLoadRect = cbB x h := by
  funext y
  show v.read (Elt F) (v.writes (Elt F) v.junk _) _ = _
  rw [read_cb v v.junk x h inb0 inb1 inb2 inb3 p0 p1 p2 p3 h0 h1 h2 h3]
  refine congrArg (cbB x h) (funext fun a => ?_)
  match a with
  | ⟨0, _⟩ => exact Fin.ext (by show 0 + 1 * (y 0).val = (y 0).val; omega)
  | ⟨1, _⟩ => exact Fin.ext (by show 0 + 1 * (y 1).val = (y 1).val; omega)

/-- The tile's column of steps, at a place given by its piece and its place there. -/
theorem xsB_at (x : Vec F S1x512x3584 .bf16) (h : Vec F S256x256 .bf16) (k : Fin 4) (y : S512x1.Idx) (z : S128x1.Idx)
    (ek : (y 0).val = 128 * k.val + (z 0).val) (e1 : (y 1).val = (z 1).val) : xsP (rowsX x k) h z = xsB x h y := by
  have hz : (z 0).val < 128 := (z 0).isLt
  have hp : pOf (y 0) = k := Fin.ext (by show (y 0).val / 128 = _; omega)
  have hr : ix2 (rOf (y 0)) (y 1) = z := by
    funext a
    match a with
    | ⟨0, _⟩ => exact Fin.ext (by show (y 0).val % 128 = (z 0).val; omega)
    | ⟨1, _⟩ => exact Fin.ext e1
  exact (congrArg₂ (fun (p : Fin 4) (j : S128x1.Idx) => xsP (rowsX x p) h j) hp hr).symm

/-- Four stores of pieces leave the tile's column of steps. -/
theorem read_xs {sig' : RefSig} {κ : Kind} {sp : Space} (v : View sig' κ sp S512x1 .f32) (f : v.ty.Contents (Elt F))
    (x : Vec F S1x512x3584 .bf16) (h : Vec F S256x256 .bf16)
    (inb0 : ∀ a, ![0, 0] a + S128x1.size a ≤ S512x1.size a) (inb1 : ∀ a, ![128, 0] a + S128x1.size a ≤ S512x1.size a) (inb2 : ∀ a, ![256, 0] a + S128x1.size a ≤ S512x1.size a) (inb3 : ∀ a, ![384, 0] a + S128x1.size a ≤ S512x1.size a)
    (p0 p1 p2 p3 : Vec F S128x1 .f32)
    (h0 : p0 = xsP (rowsX x 0) h) (h1 : p1 = xsP (rowsX x 1) h) (h2 : p2 = xsP (rowsX x 2) h) (h3 : p3 = xsP (rowsX x 3) h) :
    v.read (Elt F) (v.writes (Elt F) f [⟨Rect.unit ![384, 0] S128x1.size inb3, p3⟩,
      ⟨Rect.unit ![256, 0] S128x1.size inb2, p2⟩,
      ⟨Rect.unit ![128, 0] S128x1.size inb1, p1⟩,
      ⟨Rect.unit ![0, 0] S128x1.size inb0, p0⟩]) = xsB x h := by
  subst h0 h1 h2 h3
  funext y
  refine View.read_writes_apply_of_pieces v f (xsB x h) _ ?_ y (View.cover_of_tiledL _ ![128, 1] (by sl_kernel_rfl) y)
  intro p hp
  simp only [List.mem_cons, List.not_mem_nil, or_false] at hp
  rcases hp with rfl | rfl | rfl | rfl
  · exact fun z => xsB_at x h 3 _ z (by show 384 + 1 * (z 0).val = _; omega) (by show 0 + 1 * (z 1).val = _; omega)
  · exact fun z => xsB_at x h 2 _ z (by show 256 + 1 * (z 0).val = _; omega) (by show 0 + 1 * (z 1).val = _; omega)
  · exact fun z => xsB_at x h 1 _ z (by show 128 + 1 * (z 0).val = _; omega) (by show 0 + 1 * (z 1).val = _; omega)
  · exact fun z => xsB_at x h 0 _ z (by show 0 + 1 * (z 0).val = _; omega) (by show 0 + 1 * (z 1).val = _; omega)

/-- A load of all of it after those stores. -/
theorem readCov_xs {sig' : RefSig} {κ : Kind} {sp : Space} (v : View sig' κ sp S512x1 .f32)
    (x : Vec F S1x512x3584 .bf16) (h : Vec F S256x256 .bf16)
    (inb0 : ∀ a, ![0, 0] a + S128x1.size a ≤ S512x1.size a) (inb1 : ∀ a, ![128, 0] a + S128x1.size a ≤ S512x1.size a) (inb2 : ∀ a, ![256, 0] a + S128x1.size a ≤ S512x1.size a) (inb3 : ∀ a, ![384, 0] a + S128x1.size a ≤ S512x1.size a) (inb : ∀ a, ![0, 0] a + S512x1.size a ≤ S512x1.size a)
    (p0 p1 p2 p3 : Vec F S128x1 .f32)
    (h0 : p0 = xsP (rowsX x 0) h) (h1 : p1 = xsP (rowsX x 1) h) (h2 : p2 = xsP (rowsX x 2) h) (h3 : p3 = xsP (rowsX x 3) h) :
    v.readCov (Val := Elt F) [⟨Rect.unit ![384, 0] S128x1.size inb3, p3⟩,
      ⟨Rect.unit ![256, 0] S128x1.size inb2, p2⟩,
      ⟨Rect.unit ![128, 0] S128x1.size inb1, p1⟩,
      ⟨Rect.unit ![0, 0] S128x1.size inb0, p0⟩] (Rect.unit ![0, 0] S512x1.size inb).toLoadRect = xsB x h := by
  funext y
  show v.read (Elt F) (v.writes (Elt F) v.junk _) _ = _
  rw [read_xs v v.junk x h inb0 inb1 inb2 inb3 p0 p1 p2 p3 h0 h1 h2 h3]
  refine congrArg (xsB x h) (funext fun a => ?_)
  match a with
  | ⟨0, _⟩ => exact Fin.ext (by show 0 + 1 * (y 0).val = (y 0).val; omega)
  | ⟨1, _⟩ => exact Fin.ext (by show 0 + 1 * (y 1).val = (y 1).val; omega)

/-- The tile's row of steps, at a place given by its piece and its place there. -/
theorem xrB_at (x : Vec F S1x512x3584 .bf16) (h : Vec F S256x256 .bf16) (k : Fin 4) (y : S1x512.Idx) (z : S1x128.Idx)
    (ek : (y 1).val = 128 * k.val + (z 1).val)  : xrP (rowsX x k) h z = xrB x h y := by
  have hz : (z 1).val < 128 := (z 1).isLt
  have hp : pOf (y 1) = k := Fin.ext (by show (y 1).val / 128 = _; omega)
  have hr : ix2 0 (rOf (y 1)) = z := by
    funext a
    match a with
    | ⟨0, _⟩ => exact Fin.ext (by have : (z 0).val < 1 := (z 0).isLt; show 0 = (z 0).val; omega)
    | ⟨1, _⟩ => exact Fin.ext (by show (y 1).val % 128 = (z 1).val; omega)
  exact (congrArg₂ (fun (p : Fin 4) (j : S1x128.Idx) => xrP (rowsX x p) h j) hp hr).symm

/-- Four stores of pieces leave the tile's row of steps. -/
theorem read_xr {sig' : RefSig} {κ : Kind} {sp : Space} (v : View sig' κ sp S1x512 .f32) (f : v.ty.Contents (Elt F))
    (x : Vec F S1x512x3584 .bf16) (h : Vec F S256x256 .bf16)
    (inb0 : ∀ a, ![0, 0] a + S1x128.size a ≤ S1x512.size a) (inb1 : ∀ a, ![0, 128] a + S1x128.size a ≤ S1x512.size a) (inb2 : ∀ a, ![0, 256] a + S1x128.size a ≤ S1x512.size a) (inb3 : ∀ a, ![0, 384] a + S1x128.size a ≤ S1x512.size a)
    (p0 p1 p2 p3 : Vec F S1x128 .f32)
    (h0 : p0 = xrP (rowsX x 0) h) (h1 : p1 = xrP (rowsX x 1) h) (h2 : p2 = xrP (rowsX x 2) h) (h3 : p3 = xrP (rowsX x 3) h) :
    v.read (Elt F) (v.writes (Elt F) f [⟨Rect.unit ![0, 384] S1x128.size inb3, p3⟩,
      ⟨Rect.unit ![0, 256] S1x128.size inb2, p2⟩,
      ⟨Rect.unit ![0, 128] S1x128.size inb1, p1⟩,
      ⟨Rect.unit ![0, 0] S1x128.size inb0, p0⟩]) = xrB x h := by
  subst h0 h1 h2 h3
  funext y
  refine View.read_writes_apply_of_pieces v f (xrB x h) _ ?_ y (View.cover_of_tiledL _ ![1, 128] (by sl_kernel_rfl) y)
  intro p hp
  simp only [List.mem_cons, List.not_mem_nil, or_false] at hp
  rcases hp with rfl | rfl | rfl | rfl
  · exact fun z => xrB_at x h 3 _ z (by show 384 + 1 * (z 1).val = _; omega)
  · exact fun z => xrB_at x h 2 _ z (by show 256 + 1 * (z 1).val = _; omega)
  · exact fun z => xrB_at x h 1 _ z (by show 128 + 1 * (z 1).val = _; omega)
  · exact fun z => xrB_at x h 0 _ z (by show 0 + 1 * (z 1).val = _; omega)

/-! ## Loads of a staged block -/

/-- A load of a rank-2 block whole reads the block. -/
theorem readAt_whole2 {d : Fin 2 → ℕ} {el : EltTy} (v : Memref sig .tc .vmem ⟨2, d⟩ el)
    (hv : v.IsWhole) (x : Vec F ⟨2, d⟩ el) (inb : ∀ a, ![0, 0] a + d a ≤ d a) :
    View.readAt (Elt F) v.view (Rect.unit (s := ⟨2, d⟩) ![0, 0] d inb).toLoadRect (hv.unread x) = x := by
  funext y
  rw [hv.readAt_unread]
  refine congrArg x (funext fun a => ?_)
  match a with
  | ⟨0, _⟩ => exact Fin.ext (by show 0 + 1 * (y 0).val = (y 0).val; omega)
  | ⟨1, _⟩ => exact Fin.ext (by show 0 + 1 * (y 1).val = (y 1).val; omega)

/-- A load of 128 rows of the staged tile reads that piece. -/
theorem readAt_rowsX (v : Memref sig .tc .vmem S1x512x3584 .bf16)
    (hv : v.IsWhole) (x : Vec F S1x512x3584 .bf16) (p : Fin 4) (o : ℕ) (ho : o = 128 * p.val) (inb : ∀ a, ![0, o, 0] a + S1x128x3584.size a ≤ S1x512x3584.size a) :
    View.readAt (Elt F) v.view (Rect.unit (s := S1x512x3584) ![0, o, 0] S1x128x3584.size inb).toLoadRect (hv.unread x) = rowsX x p := by
  subst ho
  funext y
  rw [hv.readAt_unread]
  refine congrArg x (funext fun a => ?_)
  match a with
  | ⟨0, _⟩ => exact Fin.ext (by have : (y 0).val < 1 := (y 0).isLt; show 0 + 1 * (y 0).val = 0; omega)
  | ⟨1, _⟩ => exact Fin.ext (by show 128 * p.val + 1 * (y 1).val = 128 * p.val + (y 1).val; omega)
  | ⟨2, _⟩ => exact Fin.ext (by show 0 + 1 * (y 2).val = (y 2).val; omega)

/-- The column tile a grid point is at. -/
def nOf (i : grid0.Coords) : Fin 8 := ⟨(i 1).val, (i 1).isLt⟩

/-- A load of the column tile's rows of the widened weights. -/
theorem readAt_rowsW (v : Memref sig .tc .vmem S4096x3584 .bf16)
    (hv : v.IsWhole) (w : Vec F S4096x3584 .bf16) (i : grid0.Coords) (inb : ∀ a, k0_off2 i a + S512x3584.size a ≤ S4096x3584.size a) :
    View.readAt (Elt F) v.view (Rect.unit (s := S4096x3584) (k0_off2 i) S512x3584.size inb).toLoadRect (hv.unread w) = rowsW w (nOf i) := by
  funext y
  rw [hv.readAt_unread]
  have e0 : k0_off2 i 0 = 512 * (i 1).val := congrFun (k0_off2_eq i) 0
  have e1 : k0_off2 i 1 = 0 := congrFun (k0_off2_eq i) 1
  refine congrArg w (funext fun a => ?_)
  match a with
  | ⟨0, _⟩ => exact Fin.ext (by show k0_off2 i 0 + 1 * (y 0).val = 512 * (i 1).val + (y 0).val; omega)
  | ⟨1, _⟩ => exact Fin.ext (by show k0_off2 i 1 + 1 * (y 1).val = (y 1).val; omega)

/-- The column tile's rows, read back after they were stored. -/
theorem readCov_putW {sig' : RefSig} {κ : Kind} {sp : Space} (v : View sig' κ sp S4096x3584 .bf16) (i : grid0.Coords)
    (inb1 : ∀ a, k0_off1 i a + S512x3584.size a ≤ S4096x3584.size a) (inb : ∀ a, k0_off2 i a + S512x3584.size a ≤ S4096x3584.size a)
    (p : Vec F S512x3584 .bf16) :
    v.readCov (Val := Elt F) [⟨Rect.unit (s := S4096x3584) (k0_off1 i) S512x3584.size inb1, p⟩] (Rect.unit (s := S4096x3584) (k0_off2 i) S512x3584.size inb).toLoadRect = p := by
  funext y
  show v.read (Elt F) (v.writes (Elt F) v.junk _) _ = _
  exact View.read_writes_cons_rows_of_mem v v.junk inb1 p [] _ y (k0_off1_eq i)
    (by have e0 : k0_off2 i 0 = 512 * (i 1).val := congrFun (k0_off2_eq i) 0
        show k0_off2 i 0 + 1 * (y 0).val = _; omega)
    (by have e1 : k0_off2 i 1 = 0 := congrFun (k0_off2_eq i) 1
        show k0_off2 i 1 + 1 * (y 1).val = _; omega)

/-- The store of the column tile's rows. -/
theorem read_putW (v : Memref sig .tc .vmem S4096x3584 .bf16) (hv : v.IsWhole) (i : grid0.Coords)
    (w : Vec F S4096x3584 .bf16) (inb1 : ∀ a, k0_off1 i a + S512x3584.size a ≤ S4096x3584.size a)
    (b : Vec F S512x3584 .i8) (p : Vec F S512x3584 .bf16) (hp : p = k0_pay6 b) :
    v.view.read (Elt F) (v.view.writes (Elt F) (hv.unread w) [⟨Rect.unit (s := S4096x3584) (k0_off1 i) S512x3584.size inb1, p⟩]) = putW w (nOf i) b := by
  funext y
  have hi : (i 1).val < 8 := (i 1).isLt
  unfold putW
  rw [← hp]
  split
  · next h =>
    have h : (y 0).val / 512 = (i 1).val := h
    exact View.read_writes_cons_rows_of_mem v.view _ inb1 p [] y (ix2 ⟨(y 0).val % 512, by omega⟩ (y 1)) (k0_off1_eq i)
      (by show (y 0).val = 512 * (i 1).val + (y 0).val % 512; omega) (by show (y 1).val = (y 1).val; rfl)
  · next h =>
    have h : ¬ (y 0).val / 512 = (i 1).val := h
    refine (View.read_writes_cons_rows_of_not_mem (W := 512) v.view _ inb1 p [] y (k0_off1_eq i) rfl (by omega)).trans ?_
    exact congrFun (hv.read_unread w) y

/-- One store of the whole of a rank-3 block leaves its payload. -/
theorem read_whole3 {sig' : RefSig} {κ : Kind} {sp : Space} {d : Fin 3 → ℕ} {el : EltTy} (v : View sig' κ sp ⟨3, d⟩ el)
    (f : v.ty.Contents (Elt F)) (inb : ∀ a, ![0, 0, 0] a + d a ≤ d a) (p : Vec F ⟨3, d⟩ el) :
    v.read (Elt F) (v.writes (Elt F) f [⟨Rect.unit (s := ⟨3, d⟩) ![0, 0, 0] d inb, p⟩]) = p := by
  funext y
  refine Eq.trans (congrArg (v.read (Elt F) _) (funext fun a => ?_)) (View.read_writes_cons_emb v f (Rect.unit (s := ⟨3, d⟩) ![0, 0, 0] d inb) p [] y)
  match a with
  | ⟨0, _⟩ => exact Fin.ext (Eq.symm (by show 0 + 1 * (y 0).val = (y 0).val; omega))
  | ⟨1, _⟩ => exact Fin.ext (Eq.symm (by show 0 + 1 * (y 1).val = (y 1).val; omega))
  | ⟨2, _⟩ => exact Fin.ext (Eq.symm (by show 0 + 1 * (y 2).val = (y 2).val; omega))

/-- Reading the rows just put. -/
theorem rowsW_putW (w : Vec F S4096x3584 .bf16) (n : Fin 8) (b : Vec F S512x3584 .i8) : rowsW (putW w n b) n = k0_pay6 b := by
  funext y
  have hy : (y 0).val < 512 := (y 0).isLt
  have hn := n.isLt
  show (if (512 * n.val + (y 0).val) / 512 = n.val then _ else _) = _
  rw [if_pos (by omega)]
  refine congrArg (k0_pay6 b) (funext fun a => ?_)
  match a with
  | ⟨0, _⟩ => exact Fin.ext (by show (512 * n.val + (y 0).val) % 512 = (y 0).val; omega)
  | ⟨1, _⟩ => rfl

end Cert.KernelIdeal.Hand

end
-- ==== Proof.Tracked.lean ====
/-
What the pipeline's buffers and the kernel's scratch hold after each grid point, in terms of the blocks of
the argument arrays: the tile's codes and steps, the widened weights so far, and the block of the result.
-/
module

public import proofs.«01_k».proof.Proof.Reads
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt48 (t : Fin cfg0.N) : t.val < 48 := lt_of_lt_of_eq t.isLt (show cfg0.N = 48 from N_0)

/-- The first point of a point's row tile. -/
def tile (t : Fin cfg0.N) : Fin cfg0.N := ⟨8 * (t.val / 8), lt_of_le_of_lt (Nat.mul_div_le _ _) t.isLt⟩

/-- The row tile of the activations, and the sign matrix, as a row tile's first point stages them. -/
def xTile (c : Dev nD) (t : Fin cfg0.N) : Vec F S1x512x3584 .bf16 := iblk m c 0 (tile t)
def hTile (c : Dev nD) (t : Fin cfg0.N) : Vec F S256x256 .bf16 := iblk m c 1 (tile t)
/-- The row tile's codes as bytes, as operands, its steps as a column and as a row. -/
def xcAt (c : Dev nD) (t : Fin cfg0.N) : Vec F S1x512x3584 .i8 := xcB (xTile m c t) (hTile m c t)
def cbAt (c : Dev nD) (t : Fin cfg0.N) : Vec F S512x3584 .bf16 := cbB (xTile m c t) (hTile m c t)
def xsAt (c : Dev nD) (t : Fin cfg0.N) : Vec F S512x1 .f32 := xsB (xTile m c t) (hTile m c t)
def xrAt (c : Dev nD) (t : Fin cfg0.N) : Vec F S1x512 .f32 := xrB (xTile m c t) (hTile m c t)
/-- A block of weights as its point stages it. -/
def wTile (c : Dev nD) (t : Fin cfg0.N) : Vec F S512x3584 .i8 := iblk m c 2 t
/-- A block of weight scales as its point stages it. -/
def sTile (c : Dev nD) (t : Fin cfg0.N) : Vec F S1x512 .f32 := iblk m c 3 t
/-- All the weights, widened: rows 512n to 512n + 511 from point n. -/
def wFull (c : Dev nD) : Vec F S4096x3584 .bf16 := fun j =>
  k0_pay6 (wTile m c ⟨(j 0).val / 512, by have h : (j 0).val < 4096 := (j 0).isLt; rw [show cfg0.N = 48 from N_0]; omega⟩)
    (ix2 ⟨(j 0).val % 512, by omega⟩ (j 1))
/-- The block of the result. -/
def yAt (c : Dev nD) (t : Fin cfg0.N) : Vec F S64x8x512 .bf16 :=
  k0_pay7 (cbAt m c t) (rowsW (wFull m c) (nOf (grid0.coords t))) (xsAt m c t) (sTile m c t)

/-- The first 512n rows of a scratch are the widened weights'. -/
def upTo (c : Dev nD) (n : ℕ) (s : Vec F S4096x3584 .bf16) : Prop := ∀ j : S4096x3584.Idx, (j 0).val < 512 * n → s j = wFull m c j

theorem nOf_val (t : Fin cfg0.N) : (nOf (grid0.coords t)).val = t.val % 8 := by
  have e1 : (grid0.coords t 1).val = t.val / 1 % 8 := Pipeline.Grid.coords_val t 1 (by decide) rfl
  show (grid0.coords t 1).val = _
  rw [e1, Nat.div_one]

theorem tile_of_mod (t : Fin cfg0.N) (h : t.val % 8 = 0) : tile t = t := Fin.ext (by show 8 * (t.val / 8) = t.val; omega)
theorem tile_pred (t s : Fin cfg0.N) (e : s.val + 1 = t.val) (h : t.val % 8 ≠ 0) : tile s = tile t :=
  Fin.ext (by show 8 * (s.val / 8) = 8 * (t.val / 8); omega)

/-- At a point of the first row tile the widened block is its rows of the widened weights. -/
theorem pay6_wTile (c : Dev nD) (t : Fin cfg0.N) (h : t.val < 8) : k0_pay6 (wTile m c t) = rowsW (wFull m c) (nOf (grid0.coords t)) := by
  funext y
  have hy : (y 0).val < 512 := (y 0).isLt
  have hn := nOf_val t
  have ht : (⟨(512 * (nOf (grid0.coords t)).val + (y 0).val) / 512, by rw [show cfg0.N = 48 from N_0]; omega⟩ : Fin cfg0.N) = t :=
    Fin.ext (by show (512 * (nOf (grid0.coords t)).val + (y 0).val) / 512 = t.val; omega)
  have hj : (ix2 ⟨(512 * (nOf (grid0.coords t)).val + (y 0).val) % 512, by omega⟩ (y 1) : S512x3584.Idx) = y := by
    funext a
    match a with
    | ⟨0, _⟩ => exact Fin.ext (by show (512 * (nOf (grid0.coords t)).val + (y 0).val) % 512 = (y 0).val; omega)
    | ⟨1, _⟩ => rfl
  exact (congrArg₂ (fun (t : Fin cfg0.N) (j : S512x3584.Idx) => k0_pay6 (wTile m c t) j) ht hj).symm

/-- Storing the widened block extends what the scratch holds by 512 rows. -/
theorem upTo_putW (c : Dev nD) (t : Fin cfg0.N) (h : t.val < 8) (s : Vec F S4096x3584 .bf16) (hs : upTo m c (min t.val 8) s) :
    upTo m c (min (t.val + 1) 8) (putW s (nOf (grid0.coords t)) (wTile m c t)) := by
  intro j hj
  have hn := nOf_val t
  unfold putW
  split
  · next e =>
    have hq : (⟨(j 0).val / 512, by have h : (j 0).val < 4096 := (j 0).isLt; rw [show cfg0.N = 48 from N_0]; omega⟩ : Fin cfg0.N) = t :=
      Fin.ext (by show (j 0).val / 512 = t.val; omega)
    exact (congrArg (fun t : Fin cfg0.N => k0_pay6 (wTile m c t) (ix2 ⟨(j 0).val % 512, by omega⟩ (j 1) : S512x3584.Idx)) hq).symm
  · next e => exact hs j (by omega)

theorem upTo_all (c : Dev nD) (s : Vec F S4096x3584 .bf16) (n : ℕ) (h : 8 ≤ n) (hs : upTo m c (min n 8) s) : s = wFull m c :=
  funext fun j => hs j (by have : (j 0).val < 4096 := (j 0).isLt; omega)

/-- Each window's current staging memref at point `t`, spelled as the pipeline passes it (`bodyAt0`), and its wholeness. -/
abbrev ms0_0 (t : Fin cfg0.N) : Memref sig .tc .vmem S1x512x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x8x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x3584 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4096x3584 .bf16 := Memref.whole cc0_scratch0
abbrev scM0_1 : Memref sig .tc .vmem S512x3584 .bf16 := Memref.whole cc0_scratch1
abbrev scM0_2 : Memref sig .tc .vmem S512x1 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl

/-- The outputs 5 and 6 are live where the tile is quantised. -/
theorem live0_5 : ∀ t : Fin cfg0.N, cond0_0 (grid0.coords t) → cfg0.idle 5 (grid0.coords t) = false := by decide +kernel
theorem live0_6 : ∀ t : Fin cfg0.N, cond0_0 (grid0.coords t) → cfg0.idle 6 (grid0.coords t) = false := by decide +kernel
theorem live0_4 : ∀ t : Fin cfg0.N, cfg0.idle 4 (grid0.coords t) = false := fun _ => rfl

/-- Where the buffers of outputs 5 and 6 hold nothing of the body's: at the first point of each row tile. -/
def freshTab : ℕ → Bool
  | 0 => true
  | n + 1 => (0x808080808080 : ℕ).testBit n
theorem freshTab_step5 : ∀ t : Fin cfg0.N,
    freshTab (t.val + 1) = ((cfg0.win 5).flush t || (cfg0.idle 5 (cfg0.grid.coords t) && freshTab t.val)) := by decide +kernel
theorem freshTab_step6 : ∀ t : Fin cfg0.N,
    freshTab (t.val + 1) = ((cfg0.win 6).flush t || (cfg0.idle 6 (cfg0.grid.coords t) && freshTab t.val)) := by decide +kernel
theorem fresh5 (t : Fin cfg0.N) : cfg0.fresh 5 t.val = freshTab t.val :=
  Pipeline.Cfg.fresh_tab cfg0 5 freshTab rfl freshTab_step5 t.val (Nat.le_of_lt t.isLt)
theorem fresh6 (t : Fin cfg0.N) : cfg0.fresh 6 t.val = freshTab t.val :=
  Pipeline.Cfg.fresh_tab cfg0 6 freshTab rfl freshTab_step6 t.val (Nat.le_of_lt t.isLt)
theorem freshTab_not : ∀ t : Fin grid0.N, t.val % 8 ≠ 0 → freshTab t.val = false := by decide +kernel

/-! ## The pipeline's proof data -/

/-- Before point `n`: the widened weights so far, and what the point before left of the tile's codes and steps. -/
def Phi (c : Dev nD) (n : ℕ) : sProp 𝕄 :=
  iprop(∃ s0 s1 s2, ⌜upTo m c (min n 8) s0 ∧ ∀ s : Fin cfg0.N, s.val + 1 = n → s1 = cbAt m c s ∧ s2 = xsAt m c s⌝
    ∗ iprop(owns (c : Thread nD τ) scM0_0 fullShare s0 ∗ owns (c : Thread nD τ) scM0_1 fullShare s1 ∗ owns (c : Thread nD τ) scM0_2 fullShare s2) ∗ (∃ r, prngReg c r))

/-- The proof data: the inputs' buffers at their blocks, the outputs' at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => xcAt m c t
    | ⟨6, _⟩ => xrAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = xcAt m c t := by dsimp only [dats]
theorem after0_6 (c : Dev nD) (t : Fin cfg0.N) : (dats m 0 c).after 6 t = xrAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem xcAt_pred (c : Dev nD) (t s : Fin cfg0.N) (e : s.val + 1 = t.val) (h : t.val % 8 ≠ 0) : xcAt m c s = xcAt m c t := by
  unfold xcAt xTile hTile; rw [tile_pred t s e h]
theorem xrAt_pred (c : Dev nD) (t s : Fin cfg0.N) (e : s.val + 1 = t.val) (h : t.val % 8 ≠ 0) : xrAt m c s = xrAt m c t := by
  unfold xrAt xTile hTile; rw [tile_pred t s e h]
theorem cbAt_pred (c : Dev nD) (t s : Fin cfg0.N) (e : s.val + 1 = t.val) (h : t.val % 8 ≠ 0) : cbAt m c s = cbAt m c t := by
  unfold cbAt xTile hTile; rw [tile_pred t s e h]
theorem xsAt_pred (c : Dev nD) (t s : Fin cfg0.N) (e : s.val + 1 = t.val) (h : t.val % 8 ≠ 0) : xsAt m c s = xsAt m c t := by
  unfold xsAt xTile hTile; rw [tile_pred t s e h]

theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t hz hi _
  rw [after0_5, after0_5]
  refine (xcAt_pred m c t _ (by show t.val - 1 + 1 = t.val; omega) fun h0 => ?_).symm
  rw [live0_5 t ((hcond0_0 t).mpr h0)] at hi
  exact absurd hi Bool.false_ne_true

/-- Inside a row tile the buffer of output 5 already holds the tile's. -/
theorem before0_5 (c : Dev nD) (t : Fin cfg0.N) (h : t.val % 8 ≠ 0) (d) : (dats m 0 c).before 5 t d = xcAt m c t := by
  rw [Dat.before_out_traj _ 5 rfl (fun _ _ => rfl) (hcarry0_5 m c) t.val t rfl d,
    if_neg (by rw [fresh5 t, freshTab_not t h]; exact Bool.false_ne_true), after0_5]
  exact xcAt_pred m c t _ (by show t.val - 1 + 1 = t.val; omega) h

/-- The tile's value in the buffer is what the obligation asks of output 5, the point idle or not. -/
theorem leaves0_5 (c : Dev nD) (t : Fin cfg0.N) :
    owns (c : Thread nD τ) (ms0_5 t) fullShare (xcAt m c t) ⊢ ((dats m 0 c).leavesExact 5 t : sProp 𝕄) := by
  unfold Dat.leavesExact
  cases hi : cfg0.idle 5 (grid0.coords t) with
  | false =>
    show _ ⊢ owns (c : Thread nD τ) (ms0_5 t) fullShare ((dats m 0 c).after 5 t)
    rw [after0_5]
  | true =>
    have h0 : t.val % 8 ≠ 0 := fun h0 => by
      rw [live0_5 t ((hcond0_0 t).mpr h0)] at hi
      exact absurd hi Bool.false_ne_true
    cases hf : (cfg0.win 5).flush t with
    | true =>
      show _ ⊢ owns (c : Thread nD τ) (ms0_5 t) fullShare ((dats m 0 c).after 5 t)
      rw [after0_5]
    | false =>
      show _ ⊢ iprop(∃ d, owns (c : Thread nD τ) (ms0_5 t) fullShare ((dats m 0 c).before 5 t d))
      simp only [before0_5 m c t h0]
      iintro H
      iexists ((dats m 0 c).after 5 t)
      iexact H

theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t hz hi _
  rw [after0_6, after0_6]
  refine (xrAt_pred m c t _ (by show t.val - 1 + 1 = t.val; omega) fun h0 => ?_).symm
  rw [live0_6 t ((hcond0_0 t).mpr h0)] at hi
  exact absurd hi Bool.false_ne_true

/-- Inside a row tile the buffer of output 6 already holds the tile's. -/
theorem before0_6 (c : Dev nD) (t : Fin cfg0.N) (h : t.val % 8 ≠ 0) (d) : (dats m 0 c).before 6 t d = xrAt m c t := by
  rw [Dat.before_out_traj _ 6 rfl (fun _ _ => rfl) (hcarry0_6 m c) t.val t rfl d,
    if_neg (by rw [fresh6 t, freshTab_not t h]; exact Bool.false_ne_true), after0_6]
  exact xrAt_pred m c t _ (by show t.val - 1 + 1 = t.val; omega) h

/-- The tile's value in the buffer is what the obligation asks of output 6, the point idle or not. -/
theorem leaves0_6 (c : Dev nD) (t : Fin cfg0.N) :
    owns (c : Thread nD τ) (ms0_6 t) fullShare (xrAt m c t) ⊢ ((dats m 0 c).leavesExact 6 t : sProp 𝕄) := by
  unfold Dat.leavesExact
  cases hi : cfg0.idle 6 (grid0.coords t) with
  | false =>
    show _ ⊢ owns (c : Thread nD τ) (ms0_6 t) fullShare ((dats m 0 c).after 6 t)
    rw [after0_6]
  | true =>
    have h0 : t.val % 8 ≠ 0 := fun h0 => by
      rw [live0_6 t ((hcond0_0 t).mpr h0)] at hi
      exact absurd hi Bool.false_ne_true
    cases hf : (cfg0.win 6).flush t with
    | true =>
      show _ ⊢ owns (c : Thread nD τ) (ms0_6 t) fullShare ((dats m 0 c).after 6 t)
      rw [after0_6]
    | false =>
      show _ ⊢ iprop(∃ d, owns (c : Thread nD τ) (ms0_6 t) fullShare ((dats m 0 c).before 6 t d))
      simp only [before0_6 m c t h0]
      iintro H
      iexists ((dats m 0 c).after 6 t)
      iexact H

end Cert.KernelIdeal.Hand

end
-- ==== Proof.Pieces.lean ====
/-
Each of the four pieces of a tile is computed by the same operations: the values one piece stores are the block
functions of the rows it loaded.
-/
module

public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

variable {F : FTy → Type} [FloatOps F] {X X' : Vec F S1x128x3584 .bf16} {H H' : Vec F S256x256 .bf16}

/-- Piece 0's codes as bytes. -/
theorem pc0_xc (e : X = X') (e' : H = H') : k0_pay47 (k0_pay46 (k0_pay18 X H) (k0_pay19 X H) (k0_pay20 X H) (k0_pay21 X H) (k0_pay22 X H) (k0_pay33 (k0_pay23 X H) (k0_pay24 X H) (k0_pay25 X H) (k0_pay26 X H) (k0_pay27 X H) (k0_pay28 X H) (k0_pay29 X H) (k0_pay30 X H) (k0_pay31 X H) (k0_pay32 X H)) (k0_pay34 (k0_pay9 X H) (k0_pay23 X H) (k0_pay24 X H) (k0_pay25 X H) (k0_pay26 X H) (k0_pay27 X H) (k0_pay28 X H) (k0_pay29 X H) (k0_pay30 X H) (k0_pay31 X H) (k0_pay32 X H)) (k0_pay35 (k0_pay10 X H) (k0_pay23 X H) (k0_pay24 X H) (k0_pay25 X H) (k0_pay26 X H) (k0_pay27 X H) (k0_pay28 X H) (k0_pay29 X H) (k0_pay30 X H) (k0_pay31 X H) (k0_pay32 X H)) (k0_pay36 (k0_pay11 X H) (k0_pay23 X H) (k0_pay24 X H) (k0_pay25 X H) (k0_pay26 X H) (k0_pay27 X H) (k0_pay28 X H) (k0_pay29 X H) (k0_pay30 X H) (k0_pay31 X H) (k0_pay32 X H)) (k0_pay39 (k0_pay37 (k0_pay12 X H) (k0_pay23 X H) (k0_pay24 X H) (k0_pay25 X H) (k0_pay26 X H) (k0_pay27 X H) (k0_pay28 X H) (k0_pay29 X H) (k0_pay30 X H) (k0_pay31 X H) (k0_pay32 X H)) (7#32) k0_pay38) (k0_pay40 (k0_pay13 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay41 (k0_pay14 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay42 (k0_pay15 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay43 (k0_pay16 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay44 (k0_pay17 X H) (k0_pay33 (k0_pay23 X H) (k0_pay24 X H) (k0_pay25 X H) (k0_pay26 X H) (k0_pay27 X H) (k0_pay28 X H) (k0_pay29 X H) (k0_pay30 X H) (k0_pay31 X H) (k0_pay32 X H)))) = xcP X' H' := by
  subst e e'; rfl

/-- Piece 0's codes as operands. -/
theorem pc0_cb (e : X = X') (e' : H = H') : k0_pay48 (k0_pay45 (k0_pay18 X H) (k0_pay19 X H) (k0_pay20 X H) (k0_pay21 X H) (k0_pay22 X H) (k0_pay33 (k0_pay23 X H) (k0_pay24 X H) (k0_pay25 X H) (k0_pay26 X H) (k0_pay27 X H) (k0_pay28 X H) (k0_pay29 X H) (k0_pay30 X H) (k0_pay31 X H) (k0_pay32 X H)) (k0_pay34 (k0_pay9 X H) (k0_pay23 X H) (k0_pay24 X H) (k0_pay25 X H) (k0_pay26 X H) (k0_pay27 X H) (k0_pay28 X H) (k0_pay29 X H) (k0_pay30 X H) (k0_pay31 X H) (k0_pay32 X H)) (k0_pay35 (k0_pay10 X H) (k0_pay23 X H) (k0_pay24 X H) (k0_pay25 X H) (k0_pay26 X H) (k0_pay27 X H) (k0_pay28 X H) (k0_pay29 X H) (k0_pay30 X H) (k0_pay31 X H) (k0_pay32 X H)) (k0_pay36 (k0_pay11 X H) (k0_pay23 X H) (k0_pay24 X H) (k0_pay25 X H) (k0_pay26 X H) (k0_pay27 X H) (k0_pay28 X H) (k0_pay29 X H) (k0_pay30 X H) (k0_pay31 X H) (k0_pay32 X H)) (k0_pay39 (k0_pay37 (k0_pay12 X H) (k0_pay23 X H) (k0_pay24 X H) (k0_pay25 X H) (k0_pay26 X H) (k0_pay27 X H) (k0_pay28 X H) (k0_pay29 X H) (k0_pay30 X H) (k0_pay31 X H) (k0_pay32 X H)) (7#32) k0_pay38) (k0_pay40 (k0_pay13 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay41 (k0_pay14 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay42 (k0_pay15 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay43 (k0_pay16 X H) (k0_pay33 (k0_pay23 X H) (k0_pay24 X H) (k0_pay25 X H) (k0_pay26 X H) (k0_pay27 X H) (k0_pay28 X H) (k0_pay29 X H) (k0_pay30 X H) (k0_pay31 X H) (k0_pay32 X H))) (k0_pay44 (k0_pay17 X H) (k0_pay33 (k0_pay23 X H) (k0_pay24 X H) (k0_pay25 X H) (k0_pay26 X H) (k0_pay27 X H) (k0_pay28 X H) (k0_pay29 X H) (k0_pay30 X H) (k0_pay31 X H) (k0_pay32 X H)))) = cbP X' H' := by
  subst e e'; rfl

/-- Piece 0's column of steps. -/
theorem pc0_xs (e : X = X') (e' : H = H') : k0_pay49 (k0_pay33 (k0_pay23 X H) (k0_pay24 X H) (k0_pay25 X H) (k0_pay26 X H) (k0_pay27 X H) (k0_pay28 X H) (k0_pay29 X H) (k0_pay30 X H) (k0_pay31 X H) (k0_pay32 X H)) = xsP X' H' := by
  subst e e'; rfl

/-- Piece 0's row of steps. -/
theorem pc0_xr (e : X = X') (e' : H = H') : k0_pay50 (k0_pay33 (k0_pay23 X H) (k0_pay24 X H) (k0_pay25 X H) (k0_pay26 X H) (k0_pay27 X H) (k0_pay28 X H) (k0_pay29 X H) (k0_pay30 X H) (k0_pay31 X H) (k0_pay32 X H)) = xrP X' H' := by
  subst e e'; rfl

/-- Piece 1's codes as bytes. -/
theorem pc1_xc (e : X = X') (e' : H = H') : k0_pay83 (k0_pay65 (k0_pay51 X H)) (k0_pay66 (k0_pay51 X H) (k0_pay52 X H) (k0_pay53 X H) (k0_pay54 X H) (k0_pay55 X H) (k0_pay56 X H) (k0_pay57 X H) (k0_pay58 X H)) (k0_pay67 (k0_pay51 X H) (k0_pay52 X H) (k0_pay53 X H) (k0_pay54 X H) (k0_pay55 X H) (k0_pay56 X H) (k0_pay57 X H) (k0_pay58 X H)) (k0_pay69 (k0_pay68 (k0_pay51 X H) (k0_pay52 X H) (k0_pay53 X H) (k0_pay54 X H) (k0_pay55 X H) (k0_pay56 X H) (k0_pay57 X H) (k0_pay58 X H))) (k0_pay70 (k0_pay54 X H) (k0_pay66 (k0_pay51 X H) (k0_pay52 X H) (k0_pay53 X H) (k0_pay54 X H) (k0_pay55 X H) (k0_pay56 X H) (k0_pay57 X H) (k0_pay58 X H))) (k0_pay71 (k0_pay55 X H) (k0_pay66 (k0_pay51 X H) (k0_pay52 X H) (k0_pay53 X H) (k0_pay54 X H) (k0_pay55 X H) (k0_pay56 X H) (k0_pay57 X H) (k0_pay58 X H))) (k0_pay72 (k0_pay56 X H) (k0_pay66 (k0_pay51 X H) (k0_pay52 X H) (k0_pay53 X H) (k0_pay54 X H) (k0_pay55 X H) (k0_pay56 X H) (k0_pay57 X H) (k0_pay58 X H))) (k0_pay73 (k0_pay57 X H) (k0_pay66 (k0_pay51 X H) (k0_pay52 X H) (k0_pay53 X H) (k0_pay54 X H) (k0_pay55 X H) (k0_pay56 X H) (k0_pay57 X H) (k0_pay58 X H))) (k0_pay75 (7#32) (k0_pay74 (k0_pay58 X H) (k0_pay66 (k0_pay51 X H) (k0_pay52 X H) (k0_pay53 X H) (k0_pay54 X H) (k0_pay55 X H) (k0_pay56 X H) (k0_pay57 X H) (k0_pay58 X H)))) (k0_pay76 (k0_pay59 (k0_pay51 X H)) (k0_pay66 (k0_pay51 X H) (k0_pay52 X H) (k0_pay53 X H) (k0_pay54 X H) (k0_pay55 X H) (k0_pay56 X H) (k0_pay57 X H) (k0_pay58 X H))) (k0_pay77 (k0_pay60 (k0_pay51 X H)) (k0_pay66 (k0_pay51 X H) (k0_pay52 X H) (k0_pay53 X H) (k0_pay54 X H) (k0_pay55 X H) (k0_pay56 X H) (k0_pay57 X H) (k0_pay58 X H))) (k0_pay78 (k0_pay61 (k0_pay51 X H)) (k0_pay66 (k0_pay51 X H) (k0_pay52 X H) (k0_pay53 X H) (k0_pay54 X H) (k0_pay55 X H) (k0_pay56 X H) (k0_pay57 X H) (k0_pay58 X H))) (k0_pay79 (k0_pay62 (k0_pay51 X H)) (k0_pay66 (k0_pay51 X H) (k0_pay52 X H) (k0_pay53 X H) (k0_pay54 X H) (k0_pay55 X H) (k0_pay56 X H) (k0_pay57 X H) (k0_pay58 X H))) (k0_pay80 (k0_pay63 (k0_pay51 X H)) (k0_pay66 (k0_pay51 X H) (k0_pay52 X H) (k0_pay53 X H) (k0_pay54 X H) (k0_pay55 X H) (k0_pay56 X H) (k0_pay57 X H) (k0_pay58 X H))) (k0_pay81 (k0_pay64 (k0_pay51 X H)) (k0_pay66 (k0_pay51 X H) (k0_pay52 X H) (k0_pay53 X H) (k0_pay54 X H) (k0_pay55 X H) (k0_pay56 X H) (k0_pay57 X H) (k0_pay58 X H))) = xcP X' H' := by
  subst e e'; rfl

/-- Piece 1's codes as operands. -/
theorem pc1_cb (e : X = X') (e' : H = H') : k0_pay84 (k0_pay65 (k0_pay51 X H)) (k0_pay66 (k0_pay51 X H) (k0_pay52 X H) (k0_pay53 X H) (k0_pay54 X H) (k0_pay55 X H) (k0_pay56 X H) (k0_pay57 X H) (k0_pay58 X H)) (k0_pay67 (k0_pay51 X H) (k0_pay52 X H) (k0_pay53 X H) (k0_pay54 X H) (k0_pay55 X H) (k0_pay56 X H) (k0_pay57 X H) (k0_pay58 X H)) (k0_pay69 (k0_pay68 (k0_pay51 X H) (k0_pay52 X H) (k0_pay53 X H) (k0_pay54 X H) (k0_pay55 X H) (k0_pay56 X H) (k0_pay57 X H) (k0_pay58 X H))) (k0_pay70 (k0_pay54 X H) (k0_pay66 (k0_pay51 X H) (k0_pay52 X H) (k0_pay53 X H) (k0_pay54 X H) (k0_pay55 X H) (k0_pay56 X H) (k0_pay57 X H) (k0_pay58 X H))) (k0_pay71 (k0_pay55 X H) (k0_pay66 (k0_pay51 X H) (k0_pay52 X H) (k0_pay53 X H) (k0_pay54 X H) (k0_pay55 X H) (k0_pay56 X H) (k0_pay57 X H) (k0_pay58 X H))) (k0_pay72 (k0_pay56 X H) (k0_pay66 (k0_pay51 X H) (k0_pay52 X H) (k0_pay53 X H) (k0_pay54 X H) (k0_pay55 X H) (k0_pay56 X H) (k0_pay57 X H) (k0_pay58 X H))) (k0_pay73 (k0_pay57 X H) (k0_pay66 (k0_pay51 X H) (k0_pay52 X H) (k0_pay53 X H) (k0_pay54 X H) (k0_pay55 X H) (k0_pay56 X H) (k0_pay57 X H) (k0_pay58 X H))) (k0_pay75 (7#32) (k0_pay74 (k0_pay58 X H) (k0_pay66 (k0_pay51 X H) (k0_pay52 X H) (k0_pay53 X H) (k0_pay54 X H) (k0_pay55 X H) (k0_pay56 X H) (k0_pay57 X H) (k0_pay58 X H)))) (k0_pay76 (k0_pay59 (k0_pay51 X H)) (k0_pay66 (k0_pay51 X H) (k0_pay52 X H) (k0_pay53 X H) (k0_pay54 X H) (k0_pay55 X H) (k0_pay56 X H) (k0_pay57 X H) (k0_pay58 X H))) (k0_pay77 (k0_pay60 (k0_pay51 X H)) (k0_pay66 (k0_pay51 X H) (k0_pay52 X H) (k0_pay53 X H) (k0_pay54 X H) (k0_pay55 X H) (k0_pay56 X H) (k0_pay57 X H) (k0_pay58 X H))) (k0_pay78 (k0_pay61 (k0_pay51 X H)) (k0_pay66 (k0_pay51 X H) (k0_pay52 X H) (k0_pay53 X H) (k0_pay54 X H) (k0_pay55 X H) (k0_pay56 X H) (k0_pay57 X H) (k0_pay58 X H))) (k0_pay79 (k0_pay62 (k0_pay51 X H)) (k0_pay66 (k0_pay51 X H) (k0_pay52 X H) (k0_pay53 X H) (k0_pay54 X H) (k0_pay55 X H) (k0_pay56 X H) (k0_pay57 X H) (k0_pay58 X H))) (k0_pay80 (k0_pay63 (k0_pay51 X H)) (k0_pay66 (k0_pay51 X H) (k0_pay52 X H) (k0_pay53 X H) (k0_pay54 X H) (k0_pay55 X H) (k0_pay56 X H) (k0_pay57 X H) (k0_pay58 X H))) (k0_pay81 (k0_pay64 (k0_pay51 X H)) (k0_pay66 (k0_pay51 X H) (k0_pay52 X H) (k0_pay53 X H) (k0_pay54 X H) (k0_pay55 X H) (k0_pay56 X H) (k0_pay57 X H) (k0_pay58 X H))) = cbP X' H' := by
  subst e e'; rfl

/-- Piece 1's column of steps. -/
theorem pc1_xs (e : X = X') (e' : H = H') : k0_pay85 (k0_pay66 (k0_pay51 X H) (k0_pay52 X H) (k0_pay53 X H) (k0_pay54 X H) (k0_pay55 X H) (k0_pay56 X H) (k0_pay57 X H) (k0_pay58 X H)) = xsP X' H' := by
  subst e e'; rfl

/-- Piece 1's row of steps. -/
theorem pc1_xr (e : X = X') (e' : H = H') : k0_pay86 (k0_pay66 (k0_pay51 X H) (k0_pay52 X H) (k0_pay53 X H) (k0_pay54 X H) (k0_pay55 X H) (k0_pay56 X H) (k0_pay57 X H) (k0_pay58 X H)) = xrP X' H' := by
  subst e e'; rfl

/-- Piece 2's codes as bytes. -/
theorem pc2_xc (e : X = X') (e' : H = H') : k0_pay120 (k0_pay101 (k0_pay87 X) H (k0_pay88 X) (k0_pay89 X)) (k0_pay102 (k0_pay87 X) H (k0_pay88 X) (k0_pay89 X)) (k0_pay103 (k0_pay87 X) H (k0_pay88 X) (k0_pay89 X)) (k0_pay104 (k0_pay87 X) H (k0_pay88 X) (k0_pay89 X)) (k0_pay106 (k0_pay105 (k0_pay87 X) H (k0_pay88 X) (k0_pay89 X))) (k0_pay107 (k0_pay91 (k0_pay87 X) H (k0_pay88 X) (k0_pay89 X)) (k0_pay105 (k0_pay87 X) H (k0_pay88 X) (k0_pay89 X))) (k0_pay108 (k0_pay92 (k0_pay87 X) H (k0_pay88 X) (k0_pay89 X)) (k0_pay105 (k0_pay87 X) H (k0_pay88 X) (k0_pay89 X))) (k0_pay109 (k0_pay93 (k0_pay87 X) H (k0_pay88 X) (k0_pay89 X)) (k0_pay105 (k0_pay87 X) H (k0_pay88 X) (k0_pay89 X))) (k0_pay110 (k0_pay94 (k0_pay87 X) H (k0_pay88 X) (k0_pay89 X)) (k0_pay105 (k0_pay87 X) H (k0_pay88 X) (k0_pay89 X))) (k0_pay112 (k0_pay111 (k0_pay95 (k0_pay87 X) H (k0_pay88 X) (k0_pay89 X)) (k0_pay105 (k0_pay87 X) H (k0_pay88 X) (k0_pay89 X))) 4294967288#32 7#32) (k0_pay113 (k0_pay96 (k0_pay87 X) H (k0_pay88 X) (k0_pay89 X)) (k0_pay106 (k0_pay105 (k0_pay87 X) H (k0_pay88 X) (k0_pay89 X)))) (k0_pay114 (k0_pay97 (k0_pay87 X) H (k0_pay88 X) (k0_pay89 X)) (k0_pay106 (k0_pay105 (k0_pay87 X) H (k0_pay88 X) (k0_pay89 X)))) (k0_pay115 (k0_pay98 (k0_pay87 X) H (k0_pay88 X) (k0_pay89 X)) (k0_pay106 (k0_pay105 (k0_pay87 X) H (k0_pay88 X) (k0_pay89 X)))) (k0_pay116 (k0_pay99 (k0_pay87 X) H (k0_pay88 X) (k0_pay89 X)) (k0_pay106 (k0_pay105 (k0_pay87 X) H (k0_pay88 X) (k0_pay89 X)))) (k0_pay117 (k0_pay100 (k0_pay87 X) H (k0_pay88 X) (k0_pay89 X)) (k0_pay106 (k0_pay105 (k0_pay87 X) H (k0_pay88 X) (k0_pay89 X)))) k0_pay118 = xcP X' H' := by
  subst e e'; rfl

/-- Piece 2's codes as operands. -/
theorem pc2_cb (e : X = X') (e' : H = H') : k0_pay121 (k0_pay101 (k0_pay87 X) H (k0_pay88 X) (k0_pay89 X)) (k0_pay102 (k0_pay87 X) H (k0_pay88 X) (k0_pay89 X)) (k0_pay103 (k0_pay87 X) H (k0_pay88 X) (k0_pay89 X)) (k0_pay104 (k0_pay87 X) H (k0_pay88 X) (k0_pay89 X)) (k0_pay106 (k0_pay105 (k0_pay87 X) H (k0_pay88 X) (k0_pay89 X))) (k0_pay107 (k0_pay91 (k0_pay87 X) H (k0_pay88 X) (k0_pay89 X)) (k0_pay105 (k0_pay87 X) H (k0_pay88 X) (k0_pay89 X))) (k0_pay108 (k0_pay92 (k0_pay87 X) H (k0_pay88 X) (k0_pay89 X)) (k0_pay105 (k0_pay87 X) H (k0_pay88 X) (k0_pay89 X))) (k0_pay109 (k0_pay93 (k0_pay87 X) H (k0_pay88 X) (k0_pay89 X)) (k0_pay105 (k0_pay87 X) H (k0_pay88 X) (k0_pay89 X))) (k0_pay110 (k0_pay94 (k0_pay87 X) H (k0_pay88 X) (k0_pay89 X)) (k0_pay105 (k0_pay87 X) H (k0_pay88 X) (k0_pay89 X))) (k0_pay112 (k0_pay111 (k0_pay95 (k0_pay87 X) H (k0_pay88 X) (k0_pay89 X)) (k0_pay105 (k0_pay87 X) H (k0_pay88 X) (k0_pay89 X))) 4294967288#32 7#32) (k0_pay113 (k0_pay96 (k0_pay87 X) H (k0_pay88 X) (k0_pay89 X)) (k0_pay106 (k0_pay105 (k0_pay87 X) H (k0_pay88 X) (k0_pay89 X)))) (k0_pay114 (k0_pay97 (k0_pay87 X) H (k0_pay88 X) (k0_pay89 X)) (k0_pay106 (k0_pay105 (k0_pay87 X) H (k0_pay88 X) (k0_pay89 X)))) (k0_pay115 (k0_pay98 (k0_pay87 X) H (k0_pay88 X) (k0_pay89 X)) (k0_pay106 (k0_pay105 (k0_pay87 X) H (k0_pay88 X) (k0_pay89 X)))) (k0_pay116 (k0_pay99 (k0_pay87 X) H (k0_pay88 X) (k0_pay89 X)) (k0_pay106 (k0_pay105 (k0_pay87 X) H (k0_pay88 X) (k0_pay89 X)))) (k0_pay117 (k0_pay100 (k0_pay87 X) H (k0_pay88 X) (k0_pay89 X)) (k0_pay106 (k0_pay105 (k0_pay87 X) H (k0_pay88 X) (k0_pay89 X)))) k0_pay118 = cbP X' H' := by
  subst e e'; rfl

/-- Piece 2's column of steps. -/
theorem pc2_xs (e : X = X') (e' : H = H') : k0_pay122 (k0_pay106 (k0_pay105 (k0_pay87 X) H (k0_pay88 X) (k0_pay89 X))) = xsP X' H' := by
  subst e e'; rfl

/-- Piece 2's row of steps. -/
theorem pc2_xr (e : X = X') (e' : H = H') : k0_pay123 (k0_pay106 (k0_pay105 (k0_pay87 X) H (k0_pay88 X) (k0_pay89 X))) = xrP X' H' := by
  subst e e'; rfl

/-- Piece 3's codes as bytes. -/
theorem pc3_xc (e : X = X') (e' : H = H') : k0_pay2 (k0_pay138 X H) (k0_pay143 (k0_pay125 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) (k0_pay144 (k0_pay126 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) (k0_pay146 (k0_pay145 (k0_pay127 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay147 (k0_pay128 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay148 (k0_pay129 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay149 (k0_pay130 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay150 (k0_pay131 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay153 (k0_pay151 (k0_pay132 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (7#32) k0_pay152) (k0_pay154 (k0_pay133 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay155 (k0_pay134 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay156 (k0_pay135 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay157 (k0_pay136 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay158 (k0_pay137 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay159 (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) = xcP X' H' := by
  subst e e'; rfl

/-- Piece 3's codes as operands. -/
theorem pc3_cb (e : X = X') (e' : H = H') : k0_pay3 (k0_pay138 X H) (k0_pay143 (k0_pay125 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) (k0_pay144 (k0_pay126 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) (k0_pay146 (k0_pay145 (k0_pay127 X H) (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay147 (k0_pay128 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay148 (k0_pay129 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay149 (k0_pay130 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay150 (k0_pay131 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay153 (k0_pay151 (k0_pay132 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (7#32) k0_pay152) (k0_pay154 (k0_pay133 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay155 (k0_pay134 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay156 (k0_pay135 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay157 (k0_pay136 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay158 (k0_pay137 X H) (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) (k0_pay159 (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H))) = cbP X' H' := by
  subst e e'; rfl

/-- Piece 3's column of steps. -/
theorem pc3_xs (e : X = X') (e' : H = H') : k0_pay4 (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) = xsP X' H' := by
  subst e e'; rfl

/-- Piece 3's row of steps. -/
theorem pc3_xr (e : X = X') (e' : H = H') : k0_pay5 (k0_pay142 (k0_pay128 X H) (k0_pay129 X H) (k0_pay130 X H) (k0_pay131 X H) (k0_pay132 X H) (k0_pay133 X H) (k0_pay134 X H) (k0_pay135 X H) (k0_pay136 X H) (k0_pay137 X H) (k0_pay138 X H) (k0_pay139 X H) (k0_pay140 X H) (k0_pay141 X H)) = xrP X' H' := by
  subst e e'; rfl

end Cert.KernelIdeal.Hand

end
-- ==== Proof.RunA.lean ====
/-
The body at the first column tile of the first row tile: quantises and widens.
-/
module

public import proofs.«01_k».proof.Proof.Reads
public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

-- (the run's proof term is large: checking it walks past the default budget)
set_option maxHeartbeats 2000000 in
/-- The body run at the first column tile of the first row tile: quantises and widens. It leaves its inputs as they were and the outputs and the scratch at the block functions. -/
theorem kernelRun0_A (c : Dev nD) (i : grid0.Coords) (arg2 : Memref sig .tc .vmem S1x512x3584 .bf16) (harg2 : arg2.IsWhole) (arg3 : Memref sig .tc .vmem S256x256 .bf16) (harg3 : arg3.IsWhole) (arg4 : Memref sig .tc .vmem S512x3584 .i8) (harg4 : arg4.IsWhole) (arg5 : Memref sig .tc .vmem S1x512 .f32) (harg5 : arg5.IsWhole) (arg6 : Memref sig .tc .vmem S64x8x512 .bf16) (harg6 : arg6.IsWhole) (arg7 : Memref sig .tc .vmem S1x512x3584 .i8) (harg7 : arg7.IsWhole) (arg8 : Memref sig .tc .vmem S1x512 .f32) (harg8 : arg8.IsWhole) (arg9 : Memref sig .tc .vmem S4096x3584 .bf16) (harg9 : arg9.IsWhole) (arg10 : Memref sig .tc .vmem S512x3584 .bf16) (harg10 : arg10.IsWhole) (arg11 : Memref sig .tc .vmem S512x1 .f32) (harg11 : arg11.IsWhole) (hc0 : cond0_0 i) (hc1 : cond0_1 i)
    (x0 : Vec F S1x512x3584 .bf16) (x1 : Vec F S256x256 .bf16) (x2 : Vec F S512x3584 .i8) (x3 : Vec F S1x512 .f32) (s0 : Vec F S4096x3584 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay7 (cbB x0 x1) (k0_pay6 x2) (xsB x0 x1) x3) ∗ owns (c : Thread nD τ) arg7 fullShare (xcB x0 x1) ∗ owns (c : Thread nD τ) arg8 fullShare (xrB x0 x1) ∗ owns (c : Thread nD τ) arg9 fullShare (putW s0 (nOf i) x2) ∗ owns (c : Thread nD τ) arg10 fullShare (cbB x0 x1) ∗ owns (c : Thread nD τ) arg11 fullShare (xsB x0 x1)) -∗ K ⟨⟩))
          ⊢ wp frame (wpE (defs₀ (F := F)) Variants.none c none) E (cc0_quarot_w4a4_linear i arg2 harg2 arg3 harg3 arg4 harg4 arg5 harg5 arg6 harg6 arg7 harg7 arg8 harg8 arg9 harg9 arg10 harg10 arg11 harg11) K := by
    intro E K
    have e0 := readAt_rowsX arg2 harg2 x0 0 0 rfl inb_S1x512x3584_S1x128x3584_0_0_0
    have e1 := readAt_rowsX arg2 harg2 x0 1 128 rfl inb_S1x512x3584_S1x128x3584_0_128_0
    have e2 := readAt_rowsX arg2 harg2 x0 2 256 rfl inb_S1x512x3584_S1x128x3584_0_256_0
    have e3 := readAt_rowsX arg2 harg2 x0 3 384 rfl inb_S1x512x3584_S1x128x3584_0_384_0
    have eh := readAt_whole2 arg3 harg3 x1 inb_S256x256_S256x256_0_0
    simp only [cc0_quarot_w4a4_linear_eq_skeleton]; unfold cc0_quarot_w4a4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg9.eq_unread hfs0
    sl_exec (disch := first | sl_exact hc0 | sl_exact hc1)
    sl_step
    have q0_xc := pc0_xc (rfl : rowsX x0 0 = _) (rfl : x1 = _)
    have q0_cb := pc0_cb (rfl : rowsX x0 0 = _) (rfl : x1 = _)
    have q0_xs := pc0_xs (rfl : rowsX x0 0 = _) (rfl : x1 = _)
    have q0_xr := pc0_xr (rfl : rowsX x0 0 = _) (rfl : x1 = _)
    have q1_xc := pc1_xc (rfl : rowsX x0 1 = _) (rfl : x1 = _)
    have q1_cb := pc1_cb (rfl : rowsX x0 1 = _) (rfl : x1 = _)
    have q1_xs := pc1_xs (rfl : rowsX x0 1 = _) (rfl : x1 = _)
    have q1_xr := pc1_xr (rfl : rowsX x0 1 = _) (rfl : x1 = _)
    have q2_xc := pc2_xc (rfl : rowsX x0 2 = _) (rfl : x1 = _)
    have q2_cb := pc2_cb (rfl : rowsX x0 2 = _) (rfl : x1 = _)
    have q2_xs := pc2_xs (rfl : rowsX x0 2 = _) (rfl : x1 = _)
    have q2_xr := pc2_xr (rfl : rowsX x0 2 = _) (rfl : x1 = _)
    have q3_xc := pc3_xc (rfl : rowsX x0 3 = _) (rfl : x1 = _)
    have q3_cb := pc3_cb (rfl : rowsX x0 3 = _) (rfl : x1 = _)
    have q3_xs := pc3_xs (rfl : rowsX x0 3 = _) (rfl : x1 = _)
    have q3_xr := pc3_xr (rfl : rowsX x0 3 = _) (rfl : x1 = _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_whole3 _ _ _ _).trans ?_
      refine congr (congr (congr (congrArg k0_pay7 ?_) ?_) ?_) ?_
      · refine readCov_cb _ x0 x1 _ _ _ _ _ _ _ _ _ ?_ ?_ ?_ ?_
        · exact q0_cb
        · exact q1_cb
        · exact q2_cb
        · exact q3_cb
      · exact (readCov_putW _ i _ _ _).trans (congrArg k0_pay6 (readAt_whole2 arg4 harg4 x2 _))
      · refine readCov_xs _ x0 x1 _ _ _ _ _ _ _ _ _ ?_ ?_ ?_ ?_
        · exact q0_xs
        · exact q1_xs
        · exact q2_xs
        · exact q3_xs
      · exact readAt_whole2 arg5 harg5 x3 _
    isplitl [H5]
    · iexists _; isplitr; swap; · iexact H5
      ipureintro
      refine read_xc _ _ x0 x1 _ _ _ _ _ _ _ _ ?_ ?_ ?_ ?_
      · exact q0_xc
      · exact q1_xc
      · exact q2_xc
      · exact q3_xc
    isplitl [H6]
    · iexists _; isplitr; swap; · iexact H6
      ipureintro
      refine read_xr _ _ x0 x1 _ _ _ _ _ _ _ _ ?_ ?_ ?_ ?_
      · exact q0_xr
      · exact q1_xr
      · exact q2_xr
      · exact q3_xr
    isplitl [HS0]
    · iexists _; isplitr; swap; · iexact HS0
      ipureintro
      exact read_putW arg9 harg9 i s0 _ x2 _ (congrArg k0_pay6 (readAt_whole2 arg4 harg4 x2 _))
    isplitl [HS1]
    · iexists _; isplitr; swap; · iexact HS1
      ipureintro
      refine read_cb _ _ x0 x1 _ _ _ _ _ _ _ _ ?_ ?_ ?_ ?_
      · exact q0_cb
      · exact q1_cb
      · exact q2_cb
      · exact q3_cb
    iexists _; isplitr; swap; · iexact HS2
    ipureintro
    refine read_xs _ _ x0 x1 _ _ _ _ _ _ _ _ ?_ ?_ ?_ ?_
    · exact q0_xs
    · exact q1_xs
    · exact q2_xs
    · exact q3_xs

end Cert.KernelIdeal.Hand

end
-- ==== Proof.RunB.lean ====
/-
The body at a later column tile of the first row tile: widens.
-/
module

public import proofs.«01_k».proof.Proof.Reads
public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

-- (the run's proof term is large: checking it walks past the default budget)
set_option maxHeartbeats 2000000 in
/-- The body run at a later column tile of the first row tile: widens. It leaves its inputs as they were and the outputs and the scratch at the block functions. -/
theorem kernelRun0_B (c : Dev nD) (i : grid0.Coords) (arg2 : Memref sig .tc .vmem S1x512x3584 .bf16) (harg2 : arg2.IsWhole) (arg3 : Memref sig .tc .vmem S256x256 .bf16) (harg3 : arg3.IsWhole) (arg4 : Memref sig .tc .vmem S512x3584 .i8) (harg4 : arg4.IsWhole) (arg5 : Memref sig .tc .vmem S1x512 .f32) (harg5 : arg5.IsWhole) (arg6 : Memref sig .tc .vmem S64x8x512 .bf16) (harg6 : arg6.IsWhole) (arg7 : Memref sig .tc .vmem S1x512x3584 .i8) (harg7 : arg7.IsWhole) (arg8 : Memref sig .tc .vmem S1x512 .f32) (harg8 : arg8.IsWhole) (arg9 : Memref sig .tc .vmem S4096x3584 .bf16) (harg9 : arg9.IsWhole) (arg10 : Memref sig .tc .vmem S512x3584 .bf16) (harg10 : arg10.IsWhole) (arg11 : Memref sig .tc .vmem S512x1 .f32) (harg11 : arg11.IsWhole) (hc0 : ¬cond0_0 i) (hc1 : cond0_1 i)
    (x0 : Vec F S1x512x3584 .bf16) (x1 : Vec F S256x256 .bf16) (x2 : Vec F S512x3584 .i8) (x3 : Vec F S1x512 .f32) (s0 : Vec F S4096x3584 .bf16)
    (x5 : Vec F S1x512x3584 .i8) (x6 : Vec F S1x512 .f32) (s1 : Vec F S512x3584 .bf16) (s2 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ owns (c : Thread nD τ) arg9 fullShare s0 ∗ owns (c : Thread nD τ) arg10 fullShare s1 ∗ owns (c : Thread nD τ) arg11 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay7 s1 (k0_pay6 x2) s2 x3) ∗ owns (c : Thread nD τ) arg7 fullShare x5 ∗ owns (c : Thread nD τ) arg8 fullShare x6 ∗ owns (c : Thread nD τ) arg9 fullShare (putW s0 (nOf i) x2) ∗ owns (c : Thread nD τ) arg10 fullShare s1 ∗ owns (c : Thread nD τ) arg11 fullShare s2) -∗ K ⟨⟩))
          ⊢ wp frame (wpE (defs₀ (F := F)) Variants.none c none) E (cc0_quarot_w4a4_linear i arg2 harg2 arg3 harg3 arg4 harg4 arg5 harg5 arg6 harg6 arg7 harg7 arg8 harg8 arg9 harg9 arg10 harg10 arg11 harg11) K := by
    intro E K
    simp only [cc0_quarot_w4a4_linear_eq_skeleton]; unfold cc0_quarot_w4a4_linear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg10.eq_unread hfs1; obtain rfl := harg11.eq_unread hfs2; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_whole3 _ _ _ _).trans ?_
      refine congr (congr (congr (congrArg k0_pay7 ?_) ?_) ?_) ?_
      · exact readAt_whole2 arg10 harg10 s1 _
      · exact (readCov_putW _ i _ _ _).trans (congrArg k0_pay6 (readAt_whole2 arg4 harg4 x2 _))
      · exact readAt_whole2 arg11 harg11 s2 _
      · exact readAt_whole2 arg5 harg5 x3 _
    isplitl [H5]
    · iexists _; isplitr; · ipureintro; exact harg7.read_unread _
      iexact H5
    isplitl [H6]
    · iexists _; isplitr; · ipureintro; exact harg8.read_unread _
      iexact H6
    isplitl [HS0]
    · iexists _; isplitr; swap; · iexact HS0
      ipureintro
      exact read_putW arg9 harg9 i s0 _ x2 _ (congrArg k0_pay6 (readAt_whole2 arg4 harg4 x2 _))
    isplitl [HS1]
    · iexists _; isplitr; · ipureintro; exact harg10.read_unread _
      iexact HS1
    iexists _; isplitr; · ipureintro; exact harg11.read_unread _
    iexact HS2

end Cert.KernelIdeal.Hand

end
-- ==== Proof.RunC.lean ====
/-
The body at the first column tile of a later row tile: quantises.
-/
module

public import proofs.«01_k».proof.Proof.Reads
public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

-- (the run's proof term is large: checking it walks past the default budget)
set_option maxHeartbeats 2000000 in
/-- The body run at the first column tile of a later row tile: quantises. It leaves its inputs as they were and the outputs and the scratch at the block functions. -/
theorem kernelRun0_C (c : Dev nD) (i : grid0.Coords) (arg2 : Memref sig .tc .vmem S1x512x3584 .bf16) (harg2 : arg2.IsWhole) (arg3 : Memref sig .tc .vmem S256x256 .bf16) (harg3 : arg3.IsWhole) (arg4 : Memref sig .tc .vmem S512x3584 .i8) (harg4 : arg4.IsWhole) (arg5 : Memref sig .tc .vmem S1x512 .f32) (harg5 : arg5.IsWhole) (arg6 : Memref sig .tc .vmem S64x8x512 .bf16) (harg6 : arg6.IsWhole) (arg7 : Memref sig .tc .vmem S1x512x3584 .i8) (harg7 : arg7.IsWhole) (arg8 : Memref sig .tc .vmem S1x512 .f32) (harg8 : arg8.IsWhole) (arg9 : Memref sig .tc .vmem S4096x3584 .bf16) (harg9 : arg9.IsWhole) (arg10 : Memref sig .tc .vmem S512x3584 .bf16) (harg10 : arg10.IsWhole) (arg11 : Memref sig .tc .vmem S512x1 .f32) (harg11 : arg11.IsWhole) (hc0 : cond0_0 i) (hc1 : ¬cond0_1 i)
    (x0 : Vec F S1x512x3584 .bf16) (x1 : Vec F S256x256 .bf16) (x2 : Vec F S512x3584 .i8) (x3 : Vec F S1x512 .f32) (s0 : Vec F S4096x3584 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare s0 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay7 (cbB x0 x1) (rowsW s0 (nOf i)) (xsB x0 x1) x3) ∗ owns (c : Thread nD τ) arg7 fullShare (xcB x0 x1) ∗ owns (c : Thread nD τ) arg8 fullShare (xrB x0 x1) ∗ owns (c : Thread nD τ) arg9 fullShare s0 ∗ owns (c : Thread nD τ) arg10 fullShare (cbB x0 x1) ∗ owns (c : Thread nD τ) arg11 fullShare (xsB x0 x1)) -∗ K ⟨⟩))
          ⊢ wp frame (wpE (defs₀ (F := F)) Variants.none c none) E (cc0_quarot_w4a4_linear i arg2 harg2 arg3 harg3 arg4 harg4 arg5 harg5 arg6 harg6 arg7 harg7 arg8 harg8 arg9 harg9 arg10 harg10 arg11 harg11) K := by
    intro E K
    have e0 := readAt_rowsX arg2 harg2 x0 0 0 rfl inb_S1x512x3584_S1x128x3584_0_0_0
    have e1 := readAt_rowsX arg2 harg2 x0 1 128 rfl inb_S1x512x3584_S1x128x3584_0_128_0
    have e2 := readAt_rowsX arg2 harg2 x0 2 256 rfl inb_S1x512x3584_S1x128x3584_0_256_0
    have e3 := readAt_rowsX arg2 harg2 x0 3 384 rfl inb_S1x512x3584_S1x128x3584_0_384_0
    have eh := readAt_whole2 arg3 harg3 x1 inb_S256x256_S256x256_0_0
    simp only [cc0_quarot_w4a4_linear_eq_skeleton]; unfold cc0_quarot_w4a4_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg9.eq_unread hfs0
    sl_exec (disch := first | sl_exact hc0 | sl_exact hc1)
    sl_step
    have q0_xc := pc0_xc (rfl : rowsX x0 0 = _) (rfl : x1 = _)
    have q0_cb := pc0_cb (rfl : rowsX x0 0 = _) (rfl : x1 = _)
    have q0_xs := pc0_xs (rfl : rowsX x0 0 = _) (rfl : x1 = _)
    have q0_xr := pc0_xr (rfl : rowsX x0 0 = _) (rfl : x1 = _)
    have q1_xc := pc1_xc (rfl : rowsX x0 1 = _) (rfl : x1 = _)
    have q1_cb := pc1_cb (rfl : rowsX x0 1 = _) (rfl : x1 = _)
    have q1_xs := pc1_xs (rfl : rowsX x0 1 = _) (rfl : x1 = _)
    have q1_xr := pc1_xr (rfl : rowsX x0 1 = _) (rfl : x1 = _)
    have q2_xc := pc2_xc (rfl : rowsX x0 2 = _) (rfl : x1 = _)
    have q2_cb := pc2_cb (rfl : rowsX x0 2 = _) (rfl : x1 = _)
    have q2_xs := pc2_xs (rfl : rowsX x0 2 = _) (rfl : x1 = _)
    have q2_xr := pc2_xr (rfl : rowsX x0 2 = _) (rfl : x1 = _)
    have q3_xc := pc3_xc (rfl : rowsX x0 3 = _) (rfl : x1 = _)
    have q3_cb := pc3_cb (rfl : rowsX x0 3 = _) (rfl : x1 = _)
    have q3_xs := pc3_xs (rfl : rowsX x0 3 = _) (rfl : x1 = _)
    have q3_xr := pc3_xr (rfl : rowsX x0 3 = _) (rfl : x1 = _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_whole3 _ _ _ _).trans ?_
      refine congr (congr (congr (congrArg k0_pay7 ?_) ?_) ?_) ?_
      · refine readCov_cb _ x0 x1 _ _ _ _ _ _ _ _ _ ?_ ?_ ?_ ?_
        · exact q0_cb
        · exact q1_cb
        · exact q2_cb
        · exact q3_cb
      · exact readAt_rowsW arg9 harg9 s0 i _
      · refine readCov_xs _ x0 x1 _ _ _ _ _ _ _ _ _ ?_ ?_ ?_ ?_
        · exact q0_xs
        · exact q1_xs
        · exact q2_xs
        · exact q3_xs
      · exact readAt_whole2 arg5 harg5 x3 _
    isplitl [H5]
    · iexists _; isplitr; swap; · iexact H5
      ipureintro
      refine read_xc _ _ x0 x1 _ _ _ _ _ _ _ _ ?_ ?_ ?_ ?_
      · exact q0_xc
      · exact q1_xc
      · exact q2_xc
      · exact q3_xc
    isplitl [H6]
    · iexists _; isplitr; swap; · iexact H6
      ipureintro
      refine read_xr _ _ x0 x1 _ _ _ _ _ _ _ _ ?_ ?_ ?_ ?_
      · exact q0_xr
      · exact q1_xr
      · exact q2_xr
      · exact q3_xr
    isplitl [HS0]
    · iexists _; isplitr; · ipureintro; exact harg9.read_unread _
      iexact HS0
    isplitl [HS1]
    · iexists _; isplitr; swap; · iexact HS1
      ipureintro
      refine read_cb _ _ x0 x1 _ _ _ _ _ _ _ _ ?_ ?_ ?_ ?_
      · exact q0_cb
      · exact q1_cb
      · exact q2_cb
      · exact q3_cb
    iexists _; isplitr; swap; · iexact HS2
    ipureintro
    refine read_xs _ _ x0 x1 _ _ _ _ _ _ _ _ ?_ ?_ ?_ ?_
    · exact q0_xs
    · exact q1_xs
    · exact q2_xs
    · exact q3_xs

end Cert.KernelIdeal.Hand

end
-- ==== Proof.RunD.lean ====
/-
The body at a later column tile of a later row tile.
-/
module

public import proofs.«01_k».proof.Proof.Reads
public import proofs.«01_k».proof.Proof.Pieces

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

-- (the run's proof term is large: checking it walks past the default budget)
set_option maxHeartbeats 2000000 in
/-- The body run at a later column tile of a later row tile. It leaves its inputs as they were and the outputs and the scratch at the block functions. -/
theorem kernelRun0_D (c : Dev nD) (i : grid0.Coords) (arg2 : Memref sig .tc .vmem S1x512x3584 .bf16) (harg2 : arg2.IsWhole) (arg3 : Memref sig .tc .vmem S256x256 .bf16) (harg3 : arg3.IsWhole) (arg4 : Memref sig .tc .vmem S512x3584 .i8) (harg4 : arg4.IsWhole) (arg5 : Memref sig .tc .vmem S1x512 .f32) (harg5 : arg5.IsWhole) (arg6 : Memref sig .tc .vmem S64x8x512 .bf16) (harg6 : arg6.IsWhole) (arg7 : Memref sig .tc .vmem S1x512x3584 .i8) (harg7 : arg7.IsWhole) (arg8 : Memref sig .tc .vmem S1x512 .f32) (harg8 : arg8.IsWhole) (arg9 : Memref sig .tc .vmem S4096x3584 .bf16) (harg9 : arg9.IsWhole) (arg10 : Memref sig .tc .vmem S512x3584 .bf16) (harg10 : arg10.IsWhole) (arg11 : Memref sig .tc .vmem S512x1 .f32) (harg11 : arg11.IsWhole) (hc0 : ¬cond0_0 i) (hc1 : ¬cond0_1 i)
    (x0 : Vec F S1x512x3584 .bf16) (x1 : Vec F S256x256 .bf16) (x2 : Vec F S512x3584 .i8) (x3 : Vec F S1x512 .f32) (s0 : Vec F S4096x3584 .bf16)
    (x5 : Vec F S1x512x3584 .i8) (x6 : Vec F S1x512 .f32) (s1 : Vec F S512x3584 .bf16) (s2 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6 ∗ owns (c : Thread nD τ) arg9 fullShare s0 ∗ owns (c : Thread nD τ) arg10 fullShare s1 ∗ owns (c : Thread nD τ) arg11 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay7 s1 (rowsW s0 (nOf i)) s2 x3) ∗ owns (c : Thread nD τ) arg7 fullShare x5 ∗ owns (c : Thread nD τ) arg8 fullShare x6 ∗ owns (c : Thread nD τ) arg9 fullShare s0 ∗ owns (c : Thread nD τ) arg10 fullShare s1 ∗ owns (c : Thread nD τ) arg11 fullShare s2) -∗ K ⟨⟩))
          ⊢ wp frame (wpE (defs₀ (F := F)) Variants.none c none) E (cc0_quarot_w4a4_linear i arg2 harg2 arg3 harg3 arg4 harg4 arg5 harg5 arg6 harg6 arg7 harg7 arg8 harg8 arg9 harg9 arg10 harg10 arg11 harg11) K := by
    intro E K
    simp only [cc0_quarot_w4a4_linear_eq_skeleton]; unfold cc0_quarot_w4a4_linear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg10.eq_unread hfs1; obtain rfl := harg11.eq_unread hfs2; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_whole3 _ _ _ _).trans ?_
      refine congr (congr (congr (congrArg k0_pay7 ?_) ?_) ?_) ?_
      · exact readAt_whole2 arg10 harg10 s1 _
      · exact readAt_rowsW arg9 harg9 s0 i _
      · exact readAt_whole2 arg11 harg11 s2 _
      · exact readAt_whole2 arg5 harg5 x3 _
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Hand

end
-- ==== Proof.HandFrame.lean ====
/-
The run of the kernel's program: every array of the pipeline ends at what the tracked values say, and the
arguments end as they were.
-/
module

public import Idealize.ShloMosaic.Lib.Claim
public import proofs.«01_k».proof.Proof.Tracked
public import proofs.«01_k».proof.Proof.RunA
public import proofs.«01_k».proof.Proof.RunB
public import proofs.«01_k».proof.Proof.RunC
public import proofs.«01_k».proof.Proof.RunD

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the result, from what the body reads. -/
theorem yAt_of (c : Dev nD) (t : Fin cfg0.N) (cb : Vec F S512x3584 .bf16) (w : Vec F S512x3584 .bf16) (xs : Vec F S512x1 .f32)
    (h1 : cb = cbAt m c t) (h2 : w = rowsW (wFull m c) (nOf (grid0.coords t))) (h3 : xs = xsAt m c t) :
    k0_pay7 cb w xs (iblk m c 3 t) = yAt m c t := by
  subst h1 h2 h3; rfl

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point: by the case of the point, that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (yAt m c t) from by
    unfold Dat.leavesExact; rw [live0_4 t, after0_4]]
  have hN : t.val < 48 := lt48 t
  rw [show Phi m c t.val = _ from by unfold Phi; rfl]
  by_cases h0 : t.val % 8 = 0
  · iintro ⟨⟨%s0, %s1, %s2, %hpq, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    obtain ⟨hp, hq⟩ := hpq
    by_cases h1 : t.val < 8
    · iapply (kernelRun0_A c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t) s0 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexists _; iexact HS1
      isplitl [HS2]; · iexists _; iexact HS2
      iintro ⟨H0, H1, H2, H3, H4, H5, H6, HS0, HS1, HS2⟩
      isplitl [HS0 HS1 HS2 Hg]
      · unfold Phi; iexists _; iexists _; iexists _; isplitr; swap
        · isplitl [HS0 HS1 HS2]; swap; · iexact Hg
          isplitl [HS0]; · iexact HS0
          isplitl [HS1]; · iexact HS1
          iexact HS2
        ipureintro
        refine ⟨upTo_putW m c t h1 s0 hp, fun s hs => ?_⟩
        obtain rfl : s = t := Fin.ext (by omega)
        unfold cbAt xsAt xTile hTile; rw [tile_of_mod s h0]; exact ⟨rfl, rfl⟩
      isplitl [Ho]; · iexact Ho
      isplitl [H0]; · iexact H0
      isplitl [H1]; · iexact H1
      isplitl [H2]; · iexact H2
      isplitl [H3]; · iexact H3
      isplitl [H4]
      · rw [← yAt_of m c t (cbB (iblk m c 0 t) (iblk m c 1 t)) (k0_pay6 (iblk m c 2 t)) (xsB (iblk m c 0 t) (iblk m c 1 t)) (by unfold cbAt xTile hTile; rw [tile_of_mod t h0]) (pay6_wTile m c t h1) (by unfold xsAt xTile hTile; rw [tile_of_mod t h0])]; iexact H4
      isplitl [H5]
      · iapply (leaves0_5 m c t); rw [← (show xcB (iblk m c 0 t) (iblk m c 1 t) = xcAt m c t by unfold xcAt xTile hTile; rw [tile_of_mod t h0])]; iexact H5
      iapply (leaves0_6 m c t); rw [← (show xrB (iblk m c 0 t) (iblk m c 1 t) = xrAt m c t by unfold xrAt xTile hTile; rw [tile_of_mod t h0])]; iexact H6
    · iapply (kernelRun0_C c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) s0 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexists _; iexact HS1
      isplitl [HS2]; · iexists _; iexact HS2
      iintro ⟨H0, H1, H2, H3, H4, H5, H6, HS0, HS1, HS2⟩
      isplitl [HS0 HS1 HS2 Hg]
      · unfold Phi; iexists _; iexists _; iexists _; isplitr; swap
        · isplitl [HS0 HS1 HS2]; swap; · iexact Hg
          isplitl [HS0]; · iexact HS0
          isplitl [HS1]; · iexact HS1
          iexact HS2
        ipureintro
        refine ⟨by rw [upTo_all m c s0 t.val (by omega) hp]; exact fun _ _ => rfl, fun s hs => ?_⟩
        obtain rfl : s = t := Fin.ext (by omega)
        unfold cbAt xsAt xTile hTile; rw [tile_of_mod s h0]; exact ⟨rfl, rfl⟩
      isplitl [Ho]; · iexact Ho
      isplitl [H0]; · iexact H0
      isplitl [H1]; · iexact H1
      isplitl [H2]; · iexact H2
      isplitl [H3]; · iexact H3
      isplitl [H4]
      · rw [← yAt_of m c t (cbB (iblk m c 0 t) (iblk m c 1 t)) (rowsW s0 (nOf (grid0.coords t))) (xsB (iblk m c 0 t) (iblk m c 1 t)) (by unfold cbAt xTile hTile; rw [tile_of_mod t h0]) (congrArg (fun s => rowsW s (nOf (grid0.coords t))) (upTo_all m c s0 t.val (by omega) hp)) (by unfold xsAt xTile hTile; rw [tile_of_mod t h0])]; iexact H4
      isplitl [H5]
      · iapply (leaves0_5 m c t); rw [← (show xcB (iblk m c 0 t) (iblk m c 1 t) = xcAt m c t by unfold xcAt xTile hTile; rw [tile_of_mod t h0])]; iexact H5
      iapply (leaves0_6 m c t); rw [← (show xrB (iblk m c 0 t) (iblk m c 1 t) = xrAt m c t by unfold xrAt xTile hTile; rw [tile_of_mod t h0])]; iexact H6
  · simp only [before0_5 m c t h0, before0_6 m c t h0]
    iintro ⟨⟨%s0, %s1, %s2, %hpq, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    obtain ⟨hp, hq⟩ := hpq
    by_cases h1 : t.val < 8
    · obtain ⟨e1', e2'⟩ := hq ⟨t.val - 1, by omega⟩ (by show t.val - 1 + 1 = t.val; omega)
      have e1 := e1'.trans (cbAt_pred m c t _ (by show t.val - 1 + 1 = t.val; omega) h0)
      have e2 := e2'.trans (xsAt_pred m c t _ (by show t.val - 1 + 1 = t.val; omega) h0)
      iapply (kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) s0 (xcAt m c t) (xrAt m c t) s1 s2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · unfold Phi; iexists _; iexists _; iexists _; isplitr; swap
        · isplitl [HS0 HS1 HS2]; swap; · iexact Hg
          isplitl [HS0]; · iexact HS0
          isplitl [HS1]; · iexact HS1
          iexact HS2
        ipureintro
        refine ⟨upTo_putW m c t h1 s0 hp, fun s hs => ?_⟩
        obtain rfl : s = t := Fin.ext (by omega)
        exact ⟨e1, e2⟩
      isplitl [Ho]; · iexact Ho
      isplitl [H0]; · iexact H0
      isplitl [H1]; · iexact H1
      isplitl [H2]; · iexact H2
      isplitl [H3]; · iexact H3
      isplitl [H4]
      · rw [← yAt_of m c t (s1) (k0_pay6 (iblk m c 2 t)) (s2) e1 (pay6_wTile m c t h1) e2]; iexact H4
      isplitl [H5]
      · iapply (leaves0_5 m c t); iexact H5
      iapply (leaves0_6 m c t); iexact H6
    · obtain ⟨e1', e2'⟩ := hq ⟨t.val - 1, by omega⟩ (by show t.val - 1 + 1 = t.val; omega)
      have e1 := e1'.trans (cbAt_pred m c t _ (by show t.val - 1 + 1 = t.val; omega) h0)
      have e2 := e2'.trans (xsAt_pred m c t _ (by show t.val - 1 + 1 = t.val; omega) h0)
      iapply (kernelRun0_D c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) s0 (xcAt m c t) (xrAt m c t) s1 s2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · unfold Phi; iexists _; iexists _; iexists _; isplitr; swap
        · isplitl [HS0 HS1 HS2]; swap; · iexact Hg
          isplitl [HS0]; · iexact HS0
          isplitl [HS1]; · iexact HS1
          iexact HS2
        ipureintro
        refine ⟨by rw [upTo_all m c s0 t.val (by omega) hp]; exact fun _ _ => rfl, fun s hs => ?_⟩
        obtain rfl : s = t := Fin.ext (by omega)
        exact ⟨e1, e2⟩
      isplitl [Ho]; · iexact Ho
      isplitl [H0]; · iexact H0
      isplitl [H1]; · iexact H1
      isplitl [H2]; · iexact H2
      isplitl [H3]; · iexact H3
      isplitl [H4]
      · rw [← yAt_of m c t (s1) (rowsW s0 (nOf (grid0.coords t))) (s2) e1 (congrArg (fun s => rowsW s (nOf (grid0.coords t))) (upTo_all m c s0 t.val (by omega) hp)) e2]; iexact H4
      isplitl [H5]
      · iapply (leaves0_5 m c t); iexact H5
      iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%s0, HS0⟩, ⟨%s1, HS1⟩, ⟨%s2, HS2⟩⟩, Hg⟩
  iexists s0; iexists s1; iexists s2
  isplitr
  · ipureintro
    exact ⟨fun j hj => absurd hj (by simp), fun s hs => absurd hs (by omega)⟩
  isplitl [HS0 HS1 HS2]; swap; · iexact Hg
  isplitl [HS0]; · iexact HS0
  isplitl [HS1]; · iexact HS1
  iexact HS2

/-- After the last point the scratch's contents are forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%s0, %s1, %s2, -, ⟨HS0, HS1, HS2⟩, Hg⟩
  isplitl [HS0 HS1 HS2]; swap; · iexact Hg
  isplitl [HS0]; · iexists _; iexact HS0
  isplitl [HS1]; · iexists _; iexact HS1
  iexists _; iexact HS2

/-! ## The run and the frame -/

-- the launch theorem's implicit arguments are found by unifying its conclusion with this one, which takes unfolding plain
-- definitions in a metavariable's type
set_option backward.isDefEq.respectTransparency.types false in
/-- The run: every array of the pipeline at what the library computes from the proof data, every other buffer at what the
    host lines leave, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the run terminates, the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Same.lean ====
/-
The kernel as written and the kernel printed for reading over the extended reals are one program text
(no operation was rewritten): their body tables and host programs are equal. What is proved of the one
at any float operations is therefore proved of the other.
-/
module

public import proofs.«01_k».proof.Defs
public import proofs.«01_k».proof.Proof.Gen.Kernel
public import proofs.«01_k».proof.Proof.HandFrame

@[expose] public section

set_option maxRecDepth 100000

noncomputable section

namespace Cert.Kernel.Hand

open Idealize.ShloMosaic Idealize.SL.Sem

variable {F : FTy → Type} [FloatOps F]

attribute [local instance] Cert.Kernel.Gen.facts Cert.KernelIdeal.Gen.facts

/-- The two kernel bodies are the same. -/
theorem body_eq : @Cert.Kernel.cc0_quarot_w4a4_linear F _ _ = @Cert.KernelIdeal.cc0_quarot_w4a4_linear F _ _ := rfl

/-- The two tables of kernel bodies are the same. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- With the pipelines around them they are still the same. -/
theorem defs_eq : Cert.Kernel.defs (F := F) = Cert.KernelIdeal.defs (F := F) := by
  unfold Cert.Kernel.defs Cert.KernelIdeal.defs
  rw [← defs₀_eq]
  rfl

/-- The two host programs are the same. -/
theorem main_eq : Cert.Kernel.main (F := F) = Cert.KernelIdeal.main (F := F) := by
  have h : Cert.Kernel.lit0 = Cert.KernelIdeal.lit0 := rfl
  unfold Cert.Kernel.main Cert.KernelIdeal.main
  generalize Cert.KernelIdeal.lit0 = l at h
  subst h
  rfl

/-- The kernel runs to its end without fault, leaves its arguments as they were and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.KernelIdeal.Hand.frame m ρ

end Cert.Kernel.Hand

end
-- ==== Proof.Spec.lean ====
/-
The mathematics of the layer for one row: the rotation by the normalised 128×128 sign matrix, the largest
magnitude, the quantisation step, the codes, and the product with one row of weights.
-/
module

public import Idealize.ShloMosaic.Lib.ValueIdx

@[expose] public section

noncomputable section

namespace Cert.Row

open Idealize.ShloMosaic

/-- The sign of entry (i, j) of the 2ᵏ×2ᵏ sign matrix: negative where the binary digits of i and j share an odd number of
    ones. -/
def neg : ℕ → ℕ → ℕ → Bool
  | 0, _, _ => false
  | k + 1, i, j => xor (neg k i j) (i.testBit k && j.testBit k)

/-- Entry (i, j) of the 128×128 sign matrix. -/
def sgn (i j : ℕ) : EReal := if neg 7 i j then -1 else 1

/-- The normalising factor, 1/√128 as a float. -/
def unit : EReal := Ideal.ofBits .f32 0x3DB504F3#32

/-- Entry k of the rotated row: its block of 128 entries times column k mod 128 of the sign matrix, normalised. -/
def rotv (X : Fin 3584 → EReal) (k : Fin 3584) : EReal :=
  (∑ i : Fin 128, X ⟨128 * (k.val / 128) + i.val, by omega⟩ * sgn i.val (k.val % 128)) * unit

/-- The largest magnitude of the rotated row. -/
def amaxv (X : Fin 3584 → EReal) : EReal :=
  (Finset.univ : Finset (Fin 3584)).fold max (Ideal.ofBits .f32 0xFF800000#32) fun k => max (rotv X k) (-(rotv X k))

/-- The quantisation step for a row of largest magnitude a: a seventh of it where it is positive, else one. -/
def stepv (a : EReal) : EReal :=
  if Ideal.ofBits .f32 0x00000000#32 < a then Ideal.div a (Ideal.ofBits .f32 0x40E00000#32) else Ideal.ofBits .f32 0x3F800000#32

/-- The code of an entry r at step s: r / s rounded to the nearest integer and clipped to [-8, 7]. -/
def codev (r s : EReal) : EReal :=
  min ((7 : ℝ) : EReal) (max ((-8 : ℝ) : EReal) (Ideal.liftRound Ideal.roundHalfEven (Ideal.div r s)))

/-- The row's step, -/
def step (X : Fin 3584 → EReal) : EReal := stepv (amaxv X)
/-- its codes, -/
def code (X : Fin 3584 → EReal) (k : Fin 3584) : EReal := codev (rotv X k) (step X)
/-- and its product with a row of weights, scaled by the row's step and the weights' scale. -/
def lin (X : Fin 3584 → EReal) (W : Fin 3584 → BitVec 8) (s : EReal) : EReal :=
  (∑ k : Fin 3584, code X k * (((W k).toInt : ℝ) : EReal)) * step X * s

/-- A code is an integer between -8 and 7. -/
theorem codev_int (r s : EReal) : ∃ z : ℤ, -8 ≤ z ∧ z ≤ 7 ∧ codev r s = ((z : ℝ) : EReal) := by
  unfold codev
  generalize Ideal.div r s = q
  induction q using EReal.rec with
  | bot =>
    refine ⟨-8, by omega, by omega, ?_⟩
    rw [show Ideal.liftRound Ideal.roundHalfEven ⊥ = ⊥ from rfl, max_eq_left bot_le, min_eq_right (by exact_mod_cast (by norm_num : (-8 : ℝ) ≤ 7))]
    norm_num
  | top =>
    refine ⟨7, by omega, by omega, ?_⟩
    rw [show Ideal.liftRound Ideal.roundHalfEven ⊤ = ⊤ from rfl, max_eq_right le_top, min_eq_left le_top]
    norm_num
  | coe q =>
    refine ⟨min 7 (max (-8) (Ideal.roundHalfEven q)), by omega, by omega, ?_⟩
    rw [show Ideal.liftRound Ideal.roundHalfEven (q : EReal) = ((Ideal.roundHalfEven q : ℝ) : EReal) from rfl,
      ← EReal.coe_strictMono.monotone.map_max, ← EReal.coe_strictMono.monotone.map_min]
    push_cast
    rfl

end Cert.Row

end
-- ==== Proof.Layer.lean ====
/-
The layer as arrays: what each of the three results holds, in terms of the three arguments.
-/
module

public import proofs.«01_k».proof.Proof.Spec

@[expose] public section

noncomputable section

namespace Cert.Layer

open Idealize.ShloMosaic Idealize.ShloMosaic.ValueIdx

/-- A row of the activations. -/
def row (x : Shape.Idx ⟨3, ![1, 3072, 3584]⟩ → EReal) (r : Fin 3072) : Fin 3584 → EReal := fun k => x (ix3 0 r k)

/-- A row of the weight codes. -/
def wrow (w : Shape.Idx ⟨2, ![4096, 3584]⟩ → BitVec 8) (n : Fin 4096) : Fin 3584 → BitVec 8 := fun k => w (ix2 n k)

/-- The output: row `r` of the activations, rotated and quantised, against weight row `n`. -/
def out (x : Shape.Idx ⟨3, ![1, 3072, 3584]⟩ → EReal) (w : Shape.Idx ⟨2, ![4096, 3584]⟩ → BitVec 8)
    (s : Shape.Idx ⟨1, ![4096]⟩ → EReal) (r : Fin 3072) (n : Fin 4096) : EReal :=
  Row.lin (row x r) (wrow w n) (s (ix1 n))

/-- The codes of row `r`, as bytes. -/
def codes (x : Shape.Idx ⟨3, ![1, 3072, 3584]⟩ → EReal) (r : Fin 3072) (k : Fin 3584) : BitVec 8 :=
  Ideal.fptosi 8 (Row.code (row x r) k)

/-- The step of row `r`. -/
def step (x : Shape.Idx ⟨3, ![1, 3072, 3584]⟩ → EReal) (r : Fin 3072) : EReal := Row.step (row x r)

end Cert.Layer

end
-- ==== Proof.Table.lean ====
/-
The kernel's 256×256 sign matrix, entry by entry: two copies of the 128×128 sign matrix on the diagonal.
-/
module

public import proofs.«01_k».proof.Proof.Spec
public import proofs.«01_k».proof.KernelIdeal

@[expose] public section

set_option maxRecDepth 16384

noncomputable section

namespace Cert.KernelIdeal.Hand

open Idealize.ShloMosaic

/-- The four entries of the table at (a, b) in each of its four quarters: p on the diagonal quarters, z off them. -/
def quarters (p z : BitVec 16) (a b : ℕ) : Bool :=
  decide (lit0t (256 * a + b) = p) && decide (lit0t (256 * (a + 128) + (b + 128)) = p)
    && decide (lit0t (256 * a + (b + 128)) = z) && decide (lit0t (256 * (a + 128) + b) = z)

/-- They are one and zero, or minus one and minus zero, by the sign matrix. -/
def entries (a b : ℕ) : Bool := cond (Cert.Row.neg 7 a b) (quarters 0xBF80#16 0x8000#16 a b) (quarters 0x3F80#16 0x0000#16 a b)

set_option maxHeartbeats 0

/-- Rows 16·n to 16·n + 15 of the table are what they should be. -/
abbrev Rows (n : ℕ) : Prop := ∀ a : Fin 16, ∀ b : Fin 128, entries (16 * n + a.val) b.val = true

/-! The table, evaluated sixteen rows at a time: in one piece it needs more memory than it is worth. -/

theorem rows0 : Rows 0 := by decide +kernel
theorem rows1 : Rows 1 := by decide +kernel
theorem rows2 : Rows 2 := by decide +kernel
theorem rows3 : Rows 3 := by decide +kernel
theorem rows4 : Rows 4 := by decide +kernel
theorem rows5 : Rows 5 := by decide +kernel
theorem rows6 : Rows 6 := by decide +kernel
theorem rows7 : Rows 7 := by decide +kernel

/-- Every entry of the table. -/
theorem table (a b : Fin 128) : entries a.val b.val = true := by
  have e : 16 * (a.val / 16) + a.val % 16 = a.val := by omega
  have h : Rows (a.val / 16) → entries a.val b.val = true := fun h => by
    have := h ⟨a.val % 16, by omega⟩ b
    rwa [e] at this
  apply h
  have hn : a.val / 16 < 8 := by omega
  generalize a.val / 16 = n at hn
  match n, hn with
  | 0, _ => exact rows0
  | 1, _ => exact rows1
  | 2, _ => exact rows2
  | 3, _ => exact rows3
  | 4, _ => exact rows4
  | 5, _ => exact rows5
  | 6, _ => exact rows6
  | 7, _ => exact rows7
  | _ + 8, hn => exact absurd hn (by omega)

end Cert.KernelIdeal.Hand

end
-- ==== Proof.Sign.lean ====
/-
The entries of the kernel's 256×256 sign matrix as floats: the 128×128 sign matrix twice on the diagonal, zero off it.
-/
module

public import proofs.«01_k».proof.Proof.Table
public import Idealize.ShloMosaic.Lib.IdealHost

@[expose] public section

noncomputable section

namespace Cert.KernelIdeal.Hand

open Idealize.ShloMosaic

theorem ofBits_neg_zero_bf16 : Ideal.ofBits .bf16 0x8000#16 = 0 := by simp [Ideal.ofBits, Ideal.ieee]

theorem ofBits_neg_one_bf16 : Ideal.ofBits .bf16 0xBF80#16 = -1 := by
  rw [Ideal.ofBits_neg_one_bf16]; norm_num

/-- The four equations the table gives for one entry of the sign matrix. -/
theorem quarters_eq {p z : BitVec 16} {a b : ℕ} (h : quarters p z a b = true) :
    lit0t (256 * a + b) = p ∧ lit0t (256 * (a + 128) + (b + 128)) = p ∧ lit0t (256 * a + (b + 128)) = z
      ∧ lit0t (256 * (a + 128) + b) = z := by
  unfold quarters at h
  rw [Bool.and_eq_true, Bool.and_eq_true, Bool.and_eq_true] at h
  obtain ⟨⟨⟨h1, h2⟩, h3⟩, h4⟩ := h
  exact ⟨of_decide_eq_true h1, of_decide_eq_true h2, of_decide_eq_true h3, of_decide_eq_true h4⟩

/-- The same, with the words read as floats. -/
theorem quarters_val (a b : Fin 128) :
    Ideal.ofBits .bf16 (lit0t (256 * a.val + b.val)) = Cert.Row.sgn a.val b.val
      ∧ Ideal.ofBits .bf16 (lit0t (256 * (a.val + 128) + (b.val + 128))) = Cert.Row.sgn a.val b.val
      ∧ Ideal.ofBits .bf16 (lit0t (256 * a.val + (b.val + 128))) = 0
      ∧ Ideal.ofBits .bf16 (lit0t (256 * (a.val + 128) + b.val)) = 0 := by
  have h := table a b
  unfold entries at h
  unfold Cert.Row.sgn
  generalize Cert.Row.neg 7 a.val b.val = n at h
  cases n with
  | false =>
    obtain ⟨h1, h2, h3, h4⟩ := quarters_eq h
    rw [h1, h2, h3, h4]
    exact ⟨Ideal.ofBits_one_bf16, Ideal.ofBits_one_bf16, Ideal.ofBits_zero_bf16, Ideal.ofBits_zero_bf16⟩
  | true =>
    obtain ⟨h1, h2, h3, h4⟩ := quarters_eq h
    rw [h1, h2, h3, h4]
    exact ⟨ofBits_neg_one_bf16, ofBits_neg_one_bf16, ofBits_neg_zero_bf16, ofBits_neg_zero_bf16⟩

/-- An entry of the table, as a float: one or minus one on the diagonal blocks by the sign matrix, zero off them. -/
theorem lit0_val (a b : Fin 256) : Ideal.ofBits .bf16 (lit0t (256 * a.val + b.val))
    = if a.val / 128 = b.val / 128 then Cert.Row.sgn (a.val % 128) (b.val % 128) else 0 := by
  obtain ⟨h1, h2, h3, h4⟩ := quarters_val ⟨a.val % 128, by omega⟩ ⟨b.val % 128, by omega⟩
  rcases (by omega : a.val / 128 = 0 ∨ a.val / 128 = 1) with ha | ha <;> rcases (by omega : b.val / 128 = 0 ∨ b.val / 128 = 1) with hb | hb
  · rw [if_pos (ha.trans hb.symm), ← h1]
    exact congrArg (fun n => Ideal.ofBits .bf16 (lit0t n)) (by show _ = 256 * (a.val % 128) + b.val % 128; omega)
  · rw [if_neg (by omega), ← h3]
    exact congrArg (fun n => Ideal.ofBits .bf16 (lit0t n)) (by show _ = 256 * (a.val % 128) + (b.val % 128 + 128); omega)
  · rw [if_neg (by omega), ← h4]
    exact congrArg (fun n => Ideal.ofBits .bf16 (lit0t n)) (by show _ = 256 * (a.val % 128 + 128) + b.val % 128; omega)
  · rw [if_pos (ha.trans hb.symm), ← h2]
    exact congrArg (fun n => Ideal.ofBits .bf16 (lit0t n)) (by show _ = 256 * (a.val % 128 + 128) + (b.val % 128 + 128); omega)

end Cert.KernelIdeal.Hand

end
-- ==== Proof.Rot.lean ====
/-
A piece of 128 rows rotated by the kernel, entry by entry: the sum over a chunk of 256 columns.
-/
module

public import proofs.«01_k».proof.Proof.Block
public import proofs.«01_k».proof.Proof.Spec
public import Idealize.ShloMosaic.Lib.Pipeline.Value
public import Idealize.ShloMosaic.PureOps.Ideal.Laws

@[expose] public section

set_option maxRecDepth 16384
-- index bounds inside the statements
set_option backward.proofsInPublic true

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

/-- Chunk n of the columns fits. -/
theorem slc (n : Fin 14) : Shape.Slices S128x3584 ![0, 256 * n.val] S128x256 :=
  ⟨rfl, fun a => match a with
    | ⟨0, _⟩ => by show 0 + 128 ≤ 128; omega
    | ⟨1, _⟩ => by show 256 * n.val + 256 ≤ 3584; omega⟩

/-- The fourteen chunks of 256 columns, stacked one above the other. -/
theorem stack_apply (v : FVec Ideal S128x3584 .bf16) (c : Fin 14) (r : Fin 128) (l : Fin 256)
    (h : Shape.Concatenates ((List.ofFn fun n : Fin 14 => (⟨S128x256, extractStridedSlice S128x256 ![0, 256 * n.val] v (slc n)⟩ : (s : Shape) × (s.Idx → Ideal .bf16))).map (·.1)) S1792x256 0) :
    concatenate S1792x256 0 (List.ofFn fun n : Fin 14 => (⟨S128x256, extractStridedSlice S128x256 ![0, 256 * n.val] v (slc n)⟩ : (s : Shape) × (s.Idx → Ideal .bf16))) h
      (ix2 ⟨128 * c.val + r.val, by omega⟩ l) = v (ix2 r ⟨256 * c.val + l.val, by omega⟩) := by
  refine (concatenate_ofFn_apply 0 (fun n : Fin 14 => extractStridedSlice S128x256 ![0, 256 * n.val] v (slc n)) h rfl 128 rfl
    (ix2 ⟨128 * c.val + r.val, by omega⟩ l) c ?_ (ix2 r l) ?_ ?_).trans ?_
  · show (128 * c.val + r.val) / 128 = c.val
    omega
  · show r.val = (128 * c.val + r.val) % 128
    omega
  · intro b hb
    match b with
    | ⟨0, _⟩ => exact absurd rfl hb
    | ⟨1, _⟩ => rfl
  · refine extractStridedSlice_apply _ v (slc c) (ix2 r l) _ fun a => ?_
    match a with
    | ⟨0, _⟩ => exact (Nat.zero_add _).symm
    | ⟨1, _⟩ => rfl

/-- An entry of the rotated piece. -/
theorem rot_apply (x : Vec Ideal S1x128x3584 .bf16) (h : Vec Ideal S256x256 .bf16) (c : Fin 14) (r : Fin 128) (l : Fin 256) :
    rot x h (ix2 ⟨128 * c.val + r.val, by omega⟩ l)
      = (∑ j : Fin 256, x (ix3 0 r ⟨256 * c.val + j.val, by omega⟩) * h (ix2 j l)) * Cert.Row.unit := by
  let v : FVec Ideal S128x3584 .bf16 := shapeCast S128x3584 x shapeCasts_S1x128x3584_S128x3584
  have e : rot x h = mulf (matmul dot_S1792x256_S256x256_S1792x256_1_0_0_1_n_n none
      (concatenate S1792x256 0 (List.ofFn fun n : Fin 14 => (⟨S128x256, extractStridedSlice S128x256 ![0, 256 * n.val] v (slc n)⟩ : (s : Shape) × (s.Idx → Ideal .bf16)))
        concatenates_S128x256_S128x256_S128x256_S128x256_S128x256_S128x256_S128x256_S128x256_S128x256_S128x256_S128x256_S128x256_S128x256_S128x256_S1792x256_d0) h
      (constant S1792x256 .f32 0x00000000#32)) (broadcast S1792x256 (Scalar.ofBits .f32 0x3DB504F3#32)) := rfl
  rw [e]
  refine congrArg (· * Cert.Row.unit) ((Ideal.matmul_constant_zero_apply (φ₁ := .bf16) (φ₂ := .bf16)
    dot_S1792x256_S256x256_S1792x256_1_0_0_1_n_n none _ h _).trans ?_)
  rw [← Equiv.sum_comp (contrEquiv1 dot_S1792x256_S256x256_S1792x256_1_0_0_1_n_n 256 rfl rfl).symm]
  refine Finset.sum_congr rfl fun j _ => ?_
  refine congrArg₂ (· * ·) ?_ ?_
  · have hi : dot_S1792x256_S256x256_S1792x256_1_0_0_1_n_n.lhsIdx (ix2 ⟨128 * c.val + r.val, by omega⟩ l)
        ((contrEquiv1 dot_S1792x256_S256x256_S1792x256_1_0_0_1_n_n 256 rfl rfl).symm j) = ix2 ⟨128 * c.val + r.val, by omega⟩ j := by
      funext a
      match a with
      | ⟨0, _⟩ => rfl
      | ⟨1, _⟩ => rfl
    rw [hi]
    refine (stack_apply v c r j _).trans ?_
    refine shapeCast_apply x shapeCasts_S1x128x3584_S128x3584 _ _ ?_
    rw [Shape.rowMajor_val_two, Shape.rowMajor_val_three]
    show ((0 * 128 + r.val) * 3584 + (256 * c.val + j.val)) = r.val * 3584 + (256 * c.val + j.val)
    omega
  · refine congrArg h ?_
    funext a
    match a with
    | ⟨0, _⟩ => rfl
    | ⟨1, _⟩ => rfl

end Cert.KernelIdeal.Hand

end
-- ==== Proof.Quant.lean ====
/-
A piece of 128 rows quantised by the kernel, entry by entry: each row's largest magnitude, step and codes are the
layer's, given that the rotated entries are.
-/
module

public import proofs.«01_k».proof.Proof.Block
public import proofs.«01_k».proof.Proof.Spec
public import Idealize.ShloMosaic.Lib.Pipeline.Value
public import Idealize.ShloMosaic.PureOps.Ideal.Laws

@[expose] public section

set_option maxRecDepth 16384
-- index bounds inside the statements
set_option backward.proofsInPublic true

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

/-- Chunk c of the stacked rows fits. -/
theorem slr (c : Fin 14) : Shape.Slices S1792x256 ![128 * c.val, 0] S128x256 :=
  ⟨rfl, fun a => match a with
    | ⟨0, _⟩ => by show 128 * c.val + 128 ≤ 1792; omega
    | ⟨1, _⟩ => by show 0 + 256 ≤ 256; omega⟩

/-- Chunk c of the stacked rows: columns 256c to 256c + 255. -/
def chk (y : FVec Ideal S1792x256 .f32) (c : Fin 14) : FVec Ideal S128x256 .f32 :=
  extractStridedSlice S128x256 ![128 * c.val, 0] y (slr c)

theorem chk_apply (y : FVec Ideal S1792x256 .f32) (c : Fin 14) (r : Fin 128) (l : Fin 256) :
    chk y c (ix2 r l) = y (ix2 ⟨128 * c.val + r.val, by omega⟩ l) :=
  extractStridedSlice_apply _ y (slr c) (ix2 r l) _ fun a => match a with
    | ⟨0, _⟩ => rfl
    | ⟨1, _⟩ => (Nat.zero_add _).symm

/-- The largest of fourteen is at most z exactly when each is. -/
theorem max14_le (g : Fin 14 → EReal) (z : EReal) :
    max (max (max (max (max (max (max (max (max (max (max (max (max (g 0) (g 1)) (g 2)) (g 3)) (g 4)) (g 5)) (g 6)) (g 7)) (g 8)) (g 9)) (g 10)) (g 11)) (g 12)) (g 13) ≤ z
      ↔ ∀ c, g c ≤ z := by
  simp only [max_le_iff, Fin.forall_fin_succ, and_assoc, IsEmpty.forall_iff, and_true]
  exact Iff.rfl

theorem amax_le (y : FVec Ideal S1792x256 .f32) (j : S128x256.Idx) (z : EReal) :
    amax y j ≤ z ↔ ∀ c, max (chk y c j) (-(chk y c j)) ≤ z :=
  max14_le (fun c => max (chk y c j) (-(chk y c j))) z

/-- The row's largest magnitude is at most z exactly when every entry's is. -/
theorem amaxRow_le (y : FVec Ideal S1792x256 .f32) (r : Fin 128) (z : EReal) :
    amaxRow y (ix2 r 0) ≤ z ↔ Ideal.ofBits .f32 0xFF800000#32 ≤ z ∧ ∀ (l : Fin 256) (c : Fin 14),
      max (y (ix2 ⟨128 * c.val + r.val, by omega⟩ l)) (-(y (ix2 ⟨128 * c.val + r.val, by omega⟩ l))) ≤ z := by
  have e1 : amaxRow y (ix2 r 0) = multiReduction (F := Ideal) (φ := .f32) .maximumf [1] S128 (amax y) 0xFF800000#32 reduces_S128x256_S128 (.inl rfl) rfl (ix1 r) := by
    refine shapeCast_apply _ shapeCasts_S128_S128x1 (ix2 r 0) (ix1 r) ?_
    rw [Shape.rowMajor_val_two, Shape.rowMajor_val_one]
    show r.val = r.val * 1 + 0
    omega
  have e2 : amaxRow y (ix2 r 0) = (Finset.univ : Finset (Fin 256)).fold max (Ideal.ofBits .f32 0xFF800000#32) (fun l : Fin 256 => (amax y (ix2 r l) : EReal)) :=
    e1.trans ((Ideal.multiReduction_maximumf_single (amax y) _ reduces_S128x256_S128 (.inl rfl) rfl (ix1 r)).trans
      (congrArg (fun g : Fin 256 → EReal => (Finset.univ : Finset (Fin 256)).fold max (Ideal.ofBits .f32 0xFF800000#32) g)
        (funext fun l => congrArg (amax y) (funext fun a => match a with
          | ⟨0, _⟩ => rfl
          | ⟨1, _⟩ => rfl))))
  rw [e2, Finset.fold_max_le]
  refine and_congr Iff.rfl ⟨fun h l c => ?_, fun h l _ => (amax_le y (ix2 r l) z).2 fun c => ?_⟩
  · have h2 := (amax_le y (ix2 r l) z).1 (h l (Finset.mem_univ _)) c
    rwa [chk_apply] at h2
  · rw [chk_apply]; exact h l c

/-- The row's step. -/
theorem scl_apply (y : FVec Ideal S1792x256 .f32) (r : Fin 128) :
    scl y (ix2 r 0) = Cert.Row.stepv (amaxRow y (ix2 r 0)) := by
  unfold scl Cert.Row.stepv
  generalize amaxRow y = a
  show Scalar.select (BitVec.ofBool (decide (Ideal.ofBits .f32 0x00000000#32 < a (ix2 r 0)))) _ _ = _
  unfold Scalar.select
  by_cases h : Ideal.ofBits .f32 0x00000000#32 < a (ix2 r 0)
  · rw [if_pos h, decide_eq_true h]; rfl
  · rw [if_neg h, decide_eq_false h]; rfl

/-- A quantised entry. -/
theorem qch_apply (g : FVec Ideal S128x256 .f32) (s : FVec Ideal S128x1 .f32) (r : Fin 128) (l : Fin 256) :
    qch g s (ix2 r l) = Cert.Row.codev (g (ix2 r l)) (s (ix2 r 0)) := by
  have hb : broadcastTo S128x256 s broadcasts_S128x1_S128x256 (ix2 r l) = s (ix2 r 0) :=
    broadcastTo_apply s broadcasts_S128x1_S128x256 (ix2 r l) (ix2 r 0) fun a => match a with
      | ⟨0, _⟩ => rfl
      | ⟨1, _⟩ => rfl
  have h7 : (((7#32 : BitVec 32).toInt : ℝ) : EReal) = ((7 : ℝ) : EReal) := by
    rw [show (7#32 : BitVec 32).toInt = 7 by decide]; norm_num
  have h8 : (((4294967288#32 : BitVec 32).toInt : ℝ) : EReal) = ((-8 : ℝ) : EReal) := by
    rw [show (4294967288#32 : BitVec 32).toInt = -8 by decide]; norm_num
  unfold Cert.Row.codev
  rw [← hb, ← h7, ← h8]
  rfl

/-- The codes of the piece, side by side. -/
theorem codesF_apply (y : FVec Ideal S1792x256 .f32) (r : Fin 128) (k : Fin 3584) :
    codesF y (ix2 r k) = Cert.Row.codev (y (ix2 ⟨128 * (k.val / 256) + r.val, by omega⟩ ⟨k.val % 256, by omega⟩)) (scl y (ix2 r 0)) := by
  have e : codesF y = concatenate S128x3584 1 (List.ofFn fun n : Fin 14 => (⟨S128x256, qch (chk y n) (scl y)⟩ : (s : Shape) × (s.Idx → Ideal .f32)))
      concatenates_S128x256_S128x256_S128x256_S128x256_S128x256_S128x256_S128x256_S128x256_S128x256_S128x256_S128x256_S128x256_S128x256_S128x256_S128x3584_d1 := rfl
  rw [e]
  refine (concatenate_ofFn_apply (t := S128x3584) (s₁ := S128x256) 1 (fun n : Fin 14 => qch (chk y n) (scl y)) _ rfl 256 rfl
    (ix2 r k) ⟨k.val / 256, by omega⟩ rfl (ix2 r ⟨k.val % 256, by omega⟩) rfl ?_).trans ?_
  · intro b hb
    match b with
    | ⟨0, _⟩ => rfl
    | ⟨1, _⟩ => exact absurd rfl hb
  · rw [qch_apply, chk_apply]

/-! ## Given the rotated entries -/

variable (X : Fin 128 → Fin 3584 → EReal) (y : FVec Ideal S1792x256 .f32)
  (hy : ∀ (c : Fin 14) (r : Fin 128) (l : Fin 256), y (ix2 ⟨128 * c.val + r.val, by omega⟩ l) = Cert.Row.rotv (X r) ⟨256 * c.val + l.val, by omega⟩)
include hy

/-- The row's largest magnitude is the layer's. -/
theorem amaxRow_eq (r : Fin 128) : amaxRow y (ix2 r 0) = Cert.Row.amaxv (X r) := by
  refine eq_of_forall_ge_iff fun z => ?_
  rw [amaxRow_le]
  unfold Cert.Row.amaxv
  rw [Finset.fold_max_le]
  refine and_congr Iff.rfl ⟨fun h k _ => ?_, fun h l c => ?_⟩
  · have h2 := h ⟨k.val % 256, by omega⟩ ⟨k.val / 256, by omega⟩
    rw [hy] at h2
    have hk : (⟨256 * (k.val / 256) + k.val % 256, by omega⟩ : Fin 3584) = k := Fin.ext (by show 256 * (k.val / 256) + k.val % 256 = k.val; omega)
    rw [hk] at h2
    exact h2
  · rw [hy]
    exact h _ (Finset.mem_univ _)

/-- The row's step is the layer's. -/
theorem scl_eq (r : Fin 128) : scl y (ix2 r 0) = Cert.Row.step (X r) := by
  rw [scl_apply, amaxRow_eq X y hy]; rfl

/-- The row's codes are the layer's. -/
theorem codesF_eq (r : Fin 128) (k : Fin 3584) : codesF y (ix2 r k) = Cert.Row.code (X r) k := by
  rw [codesF_apply, scl_eq X y hy]
  unfold Cert.Row.code
  refine congrArg (Cert.Row.codev · _) ?_
  refine (hy ⟨k.val / 256, by omega⟩ r ⟨k.val % 256, by omega⟩).trans (congrArg _ (Fin.ext ?_))
  show 256 * (k.val / 256) + k.val % 256 = k.val
  omega

end Cert.KernelIdeal.Hand

end
-- ==== Proof.Tile.lean ====
/-
A tile of 512 rows as the kernel computes it: its codes and steps are the layer's, row by row.
-/
module

public import proofs.«01_k».proof.Proof.Rot
public import proofs.«01_k».proof.Proof.Quant

@[expose] public section

set_option maxRecDepth 16384
-- index bounds inside the statements
set_option backward.proofsInPublic true

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal.Gen

/-- What the 256×256 matrix holds: the 128×128 sign matrix twice on the diagonal, zero off it. -/
def IsSign (h : Vec Ideal S256x256 .bf16) : Prop :=
  ∀ a b : Fin 256, (h (ix2 a b) : EReal) = if a.val / 128 = b.val / 128 then Cert.Row.sgn (a.val % 128) (b.val % 128) else 0

/-- A sum of 256 terms times a column of the matrix is the sum of the 128 terms of the column's block. -/
theorem sum_block (h : Vec Ideal S256x256 .bf16) (hh : IsSign h) (f : Fin 256 → EReal) (l : Fin 256) :
    ∑ j : Fin 256, f j * (h (ix2 j l) : EReal)
      = ∑ i : Fin 128, f ⟨128 * (l.val / 128) + i.val, by omega⟩ * Cert.Row.sgn i.val (l.val % 128) := by
  refine (Fin.sum_univ_add (a := 128) (b := 128) fun j : Fin (128 + 128) => f j * (h (ix2 j l) : EReal)).trans ?_
  rcases (by omega : l.val / 128 = 0 ∨ l.val / 128 = 1) with hl | hl
  · refine (congrArg₂ (· + ·) (Finset.sum_congr rfl fun i _ => ?_) (Finset.sum_eq_zero fun i _ => ?_)).trans (add_zero _)
    · refine congrArg₂ (· * ·) (congrArg f (Fin.ext (by show i.val = 128 * (l.val / 128) + i.val; omega))) ?_
      refine (hh _ _).trans ((if_pos (by show i.val / 128 = l.val / 128; omega)).trans ?_)
      exact congrArg (Cert.Row.sgn · _) (by show i.val % 128 = i.val; omega)
    · rw [hh, if_neg (by show ¬(128 + i.val) / 128 = l.val / 128; omega), mul_zero]
  · refine (congrArg₂ (· + ·) (Finset.sum_eq_zero fun i _ => ?_) (Finset.sum_congr rfl fun i _ => ?_)).trans (zero_add _)
    · rw [hh, if_neg (by show ¬i.val / 128 = l.val / 128; omega), mul_zero]
    · refine congrArg₂ (· * ·) (congrArg f (Fin.ext (by show 128 + i.val = 128 * (l.val / 128) + i.val; omega))) ?_
      refine (hh _ _).trans ((if_pos (by show (128 + i.val) / 128 = l.val / 128; omega)).trans ?_)
      exact congrArg (Cert.Row.sgn · _) (by show (128 + i.val) % 128 = i.val; omega)

/-! ## A piece -/

section Piece
variable (x : Vec Ideal S1x128x3584 .bf16) (h : Vec Ideal S256x256 .bf16) (hh : IsSign h)
include hh

/-- The rotated piece, entry by entry. -/
theorem rot_eq (c : Fin 14) (r : Fin 128) (l : Fin 256) :
    rot x h (ix2 ⟨128 * c.val + r.val, by omega⟩ l)
      = Cert.Row.rotv (fun k => (x (ix3 0 r k) : EReal)) ⟨256 * c.val + l.val, by omega⟩ := by
  rw [rot_apply]
  unfold Cert.Row.rotv
  refine congrArg (· * Cert.Row.unit) ?_
  refine (sum_block h hh (fun j => (x (ix3 0 r ⟨256 * c.val + j.val, by omega⟩) : EReal)) l).trans ?_
  refine Finset.sum_congr rfl fun i _ => ?_
  refine congrArg₂ (· * ·) (congrArg (fun k => (x (ix3 0 r k) : EReal)) (Fin.ext ?_)) (congrArg (Cert.Row.sgn _ ·) ?_)
  · show 256 * c.val + (128 * (l.val / 128) + i.val) = 128 * ((256 * c.val + l.val) / 128) + i.val
    omega
  · show l.val % 128 = (256 * c.val + l.val) % 128
    omega

/-- The piece's codes as bytes, -/
theorem xcP_eq (r : Fin 128) (k : Fin 3584) :
    xcP x h (ix3 0 r k) = Ideal.fptosi 8 (Cert.Row.code (fun k => (x (ix3 0 r k) : EReal)) k) := by
  refine (shapeCast_apply _ shapeCasts_S128x3584_S1x128x3584 (ix3 0 r k) (ix2 r k) ?_).trans ?_
  · rw [Shape.rowMajor_val_two, Shape.rowMajor_val_three]
    show r.val * 3584 + k.val = (0 * 128 + r.val) * 3584 + k.val
    omega
  · exact congrArg (Ideal.fptosi 8) (codesF_eq (fun r k => (x (ix3 0 r k) : EReal)) (rot x h) (rot_eq x h hh) r k)

/-- as operands, -/
theorem cbP_eq (r : Fin 128) (k : Fin 3584) :
    cbP x h (ix2 r k) = Cert.Row.code (fun k => (x (ix3 0 r k) : EReal)) k :=
  (shapeCast_apply _ shapeCasts_S128x3584_S128x3584 (ix2 r k) (ix2 r k) rfl).trans
    (codesF_eq (fun r k => (x (ix3 0 r k) : EReal)) (rot x h) (rot_eq x h hh) r k)

/-- its steps as a column, -/
theorem xsP_eq (r : Fin 128) : xsP x h (ix2 r 0) = Cert.Row.step (fun k => (x (ix3 0 r k) : EReal)) :=
  (shapeCast_apply _ shapeCasts_S128x1_S128x1 (ix2 r 0) (ix2 r 0) rfl).trans
    (scl_eq (fun r k => (x (ix3 0 r k) : EReal)) (rot x h) (rot_eq x h hh) r)

/-- and as a row. -/
theorem xrP_eq (r : Fin 128) : xrP x h (ix2 0 r) = Cert.Row.step (fun k => (x (ix3 0 r k) : EReal)) := by
  unfold xrP
  refine (extractStridedSlice_apply _ _ slices_S128x128_o0_0_S1x128 (ix2 0 r) (ix2 0 r) fun a => ?_).trans ?_
  · match a with
    | ⟨0, _⟩ => rfl
    | ⟨1, _⟩ => exact (Nat.zero_add _).symm
  refine Eq.trans (b := broadcastTo S128x128 (shapeCast S128x1 (scl (rot x h)) shapeCasts_S128x1_S128x1) broadcasts_S128x1_S128x128 (ix2 r 0)) ?_ ?_
  · unfold transpose
    refine congrArg _ (funext fun a => ?_)
    match a with
    | ⟨0, _⟩ => rfl
    | ⟨1, _⟩ => rfl
  refine (broadcastTo_apply _ broadcasts_S128x1_S128x128 (ix2 r 0) (ix2 r 0) fun a => ?_).trans ?_
  · match a with
    | ⟨0, _⟩ => rfl
    | ⟨1, _⟩ => rfl
  exact xsP_eq x h hh r

end Piece

/-! ## A tile -/

section Tile
variable (x : Vec Ideal S1x512x3584 .bf16) (h : Vec Ideal S256x256 .bf16) (hh : IsSign h)

/-- A row of the tile. -/
def rowT (r : Fin 512) : Fin 3584 → EReal := fun k => (x (ix3 0 r k) : EReal)

theorem rowT_eq (r : Fin 512) : (fun k => (rowsX x (pOf r) (ix3 0 (rOf r) k) : EReal)) = rowT x r := by
  funext k
  unfold rowT rowsX pOf rOf
  refine congrArg (fun r => (x (ix3 0 r k) : EReal)) (Fin.ext ?_)
  show 128 * (r.val / 128) + r.val % 128 = r.val
  omega

include hh

/-- The tile's codes as bytes, -/
theorem xcB_eq (r : Fin 512) (k : Fin 3584) : xcB x h (ix3 0 r k) = Ideal.fptosi 8 (Cert.Row.code (rowT x r) k) := by
  rw [← rowT_eq]; exact xcP_eq _ h hh (rOf r) k
/-- as operands, -/
theorem cbB_eq (r : Fin 512) (k : Fin 3584) : cbB x h (ix2 r k) = Cert.Row.code (rowT x r) k := by
  rw [← rowT_eq]; exact cbP_eq _ h hh (rOf r) k
/-- its steps as a column, -/
theorem xsB_eq (r : Fin 512) : xsB x h (ix2 r 0) = Cert.Row.step (rowT x r) := by
  rw [← rowT_eq]; exact xsP_eq _ h hh (rOf r)
/-- and as a row. -/
theorem xrB_eq (r : Fin 512) : xrB x h (ix2 0 r) = Cert.Row.step (rowT x r) := by
  rw [← rowT_eq]; exact xrP_eq _ h hh (rOf r)

end Tile

/-! ## The block of the result -/

/-- An entry of the block of the result: row r of the tile against row n of the block of weights. -/
theorem pay7_eq (cb : Vec Ideal S512x3584 .bf16) (w : Vec Ideal S512x3584 .bf16) (s : Vec Ideal S512x1 .f32) (ws : Vec Ideal S1x512 .f32)
    (a : Fin 64) (b : Fin 8) (n : Fin 512) :
    k0_pay7 cb w s ws (ix3 a b n)
      = (∑ k : Fin 3584, (cb (ix2 ⟨8 * a.val + b.val, by omega⟩ k) : EReal) * (w (ix2 n k) : EReal))
          * (s (ix2 ⟨8 * a.val + b.val, by omega⟩ 0) : EReal) * (ws (ix2 0 n) : EReal) := by
  unfold k0_pay7
  rw [truncf_apply]
  refine Eq.trans (shapeCast_apply (s := S512x512) (t := S64x8x512) _ shapeCasts_S512x512_S64x8x512 (ix3 a b n) (ix2 ⟨8 * a.val + b.val, by omega⟩ n) ?_) ?_
  · rw [Shape.rowMajor_val_two, Shape.rowMajor_val_three]
    show (8 * a.val + b.val) * 512 + n.val = (a.val * 8 + b.val) * 512 + n.val
    omega
  refine congrArg₂ (fun p q : EReal => p * q) (congrArg₂ (fun p q : EReal => p * q) ?_ ?_) ?_
  · refine (Ideal.matmul_constant_zero_apply (φ₁ := .bf16) (φ₂ := .bf16) dot_S512x3584_S512x3584_S512x512_1_1_0_0_n_n none cb w _).trans ?_
    rw [← Equiv.sum_comp (contrEquiv1 dot_S512x3584_S512x3584_S512x512_1_1_0_0_n_n 3584 rfl rfl).symm]
    refine Finset.sum_congr rfl fun k _ => congrArg₂ (fun p q : EReal => p * q) (congrArg cb (funext fun a => ?_)) (congrArg w (funext fun a => ?_))
    · match a with
      | ⟨0, _⟩ => rfl
      | ⟨1, _⟩ => rfl
    · match a with
      | ⟨0, _⟩ => rfl
      | ⟨1, _⟩ => rfl
  · refine broadcastTo_apply s broadcasts_S512x1_S512x512 _ _ fun a => ?_
    match a with
    | ⟨0, _⟩ => rfl
    | ⟨1, _⟩ => rfl
  · refine (broadcastTo_apply _ broadcasts_S1x512_S512x512 _ (ix2 0 n) fun a => ?_).trans ?_
    · match a with
      | ⟨0, _⟩ => rfl
      | ⟨1, _⟩ => rfl
    · exact shapeCast_apply ws shapeCasts_S1x512_S1x512 (ix2 0 n) (ix2 0 n) rfl

/-- A widened weight. -/
theorem pay6_eq (w : Vec Ideal S512x3584 .i8) (n : Fin 512) (k : Fin 3584) :
    (k0_pay6 (F := Ideal) w (ix2 n k) : EReal) = (((w (ix2 n k)).toInt : ℝ) : EReal) := by
  unfold k0_pay6
  exact shapeCast_apply (sitofp (F := Ideal) .bf16 w) shapeCasts_S512x3584_S512x3584 (ix2 n k) (ix2 n k) rfl

end Cert.KernelIdeal.Hand

end
-- ==== Proof.Arrays.lean ====
/-
What the kernel stages, and what its three arrays hold after the run: the layer's output, codes and steps.
-/
module

public import proofs.«01_k».proof.Proof.Layer
public import proofs.«01_k».proof.Proof.Sign
public import proofs.«01_k».proof.Proof.Tile
public import proofs.«01_k».proof.Proof.HandFrame
public import Idealize.ShloMosaic.Lib.Pipeline.ValueKit.Geometry
public import Idealize.ShloMosaic.Lib.StableHlo.RunRead

@[expose] public section

set_option maxRecDepth 16384
-- index bounds inside the statements
set_option backward.proofsInPublic true

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal.Gen

variable (m : (ℓ : Loc nD τ sig) → Buf (Elt Ideal) ℓ)

/-- The three arguments. -/
abbrev argX (c : Dev nD) : Vec Ideal S1x3072x3584 .bf16 := m ((c.tc : Thread nD τ).loc main_arg0)
abbrev argW (c : Dev nD) : Vec Ideal S4096x3584 .i8 := m ((c.tc : Thread nD τ).loc main_arg1)
abbrev argS (c : Dev nD) : Vec Ideal S4096 .f32 := m ((c.tc : Thread nD τ).loc main_arg2)

/-! ## Where each block lies -/

theorem index0 : ∀ t : Fin grid0.N, win0_0.index t 0 = 0 ∧ win0_0.index t 1 = t.val / 8 ∧ win0_0.index t 2 = 0 := by decide +kernel
theorem index1 : ∀ t : Fin grid0.N, win0_1.index t 0 = 0 ∧ win0_1.index t 1 = 0 := by decide +kernel
theorem index2 : ∀ t : Fin grid0.N, t.val < 8 → win0_2.index t 0 = t.val ∧ win0_2.index t 1 = 0 := by decide +kernel
theorem index3 : ∀ t : Fin grid0.N, win0_3.index t 0 = 0 ∧ win0_3.index t 1 = t.val % 8 := by decide +kernel
theorem index4 : ∀ t : Fin grid0.N, win0_4.index t 0 = t.val / 8 ∧ win0_4.index t 1 = 0 ∧ win0_4.index t 2 = t.val % 8 := by decide +kernel
theorem index5 : ∀ t : Fin grid0.N, win0_5.index t 0 = 0 ∧ win0_5.index t 1 = t.val / 8 ∧ win0_5.index t 2 = 0 := by decide +kernel
theorem index6 : ∀ t : Fin grid0.N, win0_6.index t 0 = 0 ∧ win0_6.index t 1 = t.val / 8 := by decide +kernel

/-! ## What is staged -/

/-- The sign matrix as the region finds it. -/
theorem V_cst (c : Dev nD) : V m c main_cst = (fun i => FloatOps.ofBits (F := Ideal) .bf16 (lit0 (S256x256.rowMajor i)) : Vec Ideal S256x256 .bf16) := by
  show StableHlo.after (List.flatten [hostOps0]) _ (Proc.devRef .tc main_cst) = _
  simp only [hostOps0, List.flatten_cons, List.flatten_nil, List.append_nil]
  after_reads_simp
  rfl

/-- The weight scales as the region finds them. -/
theorem V_v0 (c : Dev nD) (n : Fin 4096) : (V m c main_v0 : Vec Ideal S1x4096 .f32) (ix2 0 n) = argS m c (ix1 n) := by
  have e : V m c main_v0 = (shapeCast S1x4096 (argS m c) shapeCasts_S4096_S1x4096 : Vec Ideal S1x4096 .f32) := by
    show StableHlo.after (List.flatten [hostOps0]) _ (Proc.devRef .tc main_v0) = _
    simp only [hostOps0, List.flatten_cons, List.flatten_nil, List.append_nil]
    after_reads_simp
    rfl
  rw [e]
  refine shapeCast_apply _ _ _ _ ?_
  rw [Shape.rowMajor_val_one, Shape.rowMajor_val_two]
  show n.val = 0 * 4096 + n.val
  omega

/-- The staged matrix is the sign matrix twice on the diagonal. -/
theorem isSign (c : Dev nD) (t : Fin cfg0.N) : IsSign (hTile m c t) := by
  intro a b
  have hi := index1 (tile t)
  have e : hTile m c t (ix2 a b) = (V m c main_cst : Vec Ideal S256x256 .bf16) (ix2 a b) := by
    unfold hTile iblk
    rw [View.read_apply]
    show V m c main_cst _ = V m c main_cst _
    refine congrArg (V m c main_cst) (funext fun k => Fin.ext ?_)
    match k with
    | ⟨0, _⟩ => show win0_1.index (tile t) 0 * 256 + 1 * a.val = a.val; rw [hi.1]; omega
    | ⟨1, _⟩ => show win0_1.index (tile t) 1 * 256 + 1 * b.val = b.val; rw [hi.2]; omega
  rw [e, V_cst]
  refine Eq.trans ?_ (lit0_val a b)
  have hk : (S256x256.rowMajor (ix2 a b)).val = 256 * a.val + b.val := by
    rw [Shape.rowMajor_val_two]
    show a.val * 256 + b.val = _
    omega
  exact congrArg (fun n => Ideal.ofBits .bf16 (lit0t n)) hk

/-- The row of the array a row of the tile is. -/
abbrev grow (t : Fin cfg0.N) (r : Fin 512) : Fin 3072 := ⟨512 * (t.val / 8) + r.val, by have := lt48 t; omega⟩

/-- The staged activations are 512 rows of the argument. -/
theorem xTile_eq (c : Dev nD) (t : Fin cfg0.N) (r : Fin 512) : rowT (xTile m c t) r = Cert.Layer.row (argX m c) (grow t r) := by
  funext k
  have hi := index0 (tile t)
  have ht : (tile t).val / 8 = t.val / 8 := by show 8 * (t.val / 8) / 8 = _; omega
  unfold rowT Cert.Layer.row xTile iblk
  rw [View.read_apply]
  refine Eq.trans (show _ = V m c main_arg0 (ix3 0 (grow t r) k) from ?_) (congrFun (V_main_arg0 m c) _)
  refine congrArg (V m c main_arg0) (funext fun a => Fin.ext ?_)
  match a with
  | ⟨0, _⟩ => show win0_0.index (tile t) 0 * 1 + 1 * 0 = 0; rw [hi.1]
  | ⟨1, _⟩ => show win0_0.index (tile t) 1 * 512 + 1 * r.val = 512 * (t.val / 8) + r.val; rw [hi.2.1, ht]; omega
  | ⟨2, _⟩ => show win0_0.index (tile t) 2 * 3584 + 1 * k.val = k.val; rw [hi.2.2]; omega

/-- The widened weights are the argument's codes. -/
theorem wFull_eq (c : Dev nD) (n : Fin 4096) (k : Fin 3584) :
    (wFull m c (ix2 n k) : EReal) = (((argW m c (ix2 n k)).toInt : ℝ) : EReal) := by
  have hlt : n.val / 512 < 8 := by omega
  have h48 : n.val / 512 < cfg0.N := by rw [show cfg0.N = 48 from N_0]; omega
  refine (pay6_eq (wTile m c ⟨n.val / 512, h48⟩) ⟨n.val % 512, by omega⟩ k).trans ?_
  have hi := index2 ⟨n.val / 512, h48⟩ hlt
  refine congrArg (fun b : BitVec 8 => ((b.toInt : ℝ) : EReal)) ?_
  unfold wTile iblk
  rw [View.read_apply]
  refine Eq.trans (show _ = V m c main_arg1 (ix2 n k) from ?_) (congrFun (V_main_arg1 m c) _)
  refine congrArg (V m c main_arg1) (funext fun a => Fin.ext ?_)
  match a with
  | ⟨0, _⟩ => show win0_2.index ⟨n.val / 512, h48⟩ 0 * 512 + 1 * (n.val % 512) = n.val; rw [hi.1]; show n.val / 512 * 512 + 1 * (n.val % 512) = _; omega
  | ⟨1, _⟩ => show win0_2.index ⟨n.val / 512, h48⟩ 1 * 3584 + 1 * k.val = k.val; rw [hi.2]; omega

/-- The staged scales are 512 of the argument's. -/
theorem sTile_eq (c : Dev nD) (t : Fin cfg0.N) (n : Fin 512) :
    (sTile m c t (ix2 0 n) : EReal) = argS m c (ix1 ⟨512 * (t.val % 8) + n.val, by omega⟩) := by
  have hi := index3 t
  unfold sTile iblk
  rw [View.read_apply]
  refine Eq.trans (show _ = V m c main_v0 (ix2 0 ⟨512 * (t.val % 8) + n.val, by omega⟩) from ?_) (V_v0 m c _)
  refine congrArg (V m c main_v0) (funext fun a => Fin.ext ?_)
  match a with
  | ⟨0, _⟩ => show win0_3.index t 0 * 1 + 1 * 0 = 0; rw [hi.1]
  | ⟨1, _⟩ => show win0_3.index t 1 * 512 + 1 * n.val = 512 * (t.val % 8) + n.val; rw [hi.2]; omega

/-! ## What each point leaves -/

/-- The codes. -/
theorem xcAt_eq (c : Dev nD) (t : Fin cfg0.N) (r : Fin 512) (k : Fin 3584) :
    xcAt m c t (ix3 0 r k) = Cert.Layer.codes (argX m c) (grow t r) k := by
  unfold xcAt Cert.Layer.codes
  rw [xcB_eq _ _ (isSign m c t), xTile_eq]

/-- The steps. -/
theorem xrAt_eq (c : Dev nD) (t : Fin cfg0.N) (r : Fin 512) : (xrAt m c t (ix2 0 r) : EReal) = Cert.Layer.step (argX m c) (grow t r) := by
  unfold xrAt Cert.Layer.step
  exact (xrB_eq _ _ (isSign m c t) r).trans (congrArg _ (xTile_eq m c t r))

/-- The output. -/
theorem yAt_eq (c : Dev nD) (t : Fin cfg0.N) (a : Fin 64) (b : Fin 8) (n : Fin 512) :
    (yAt m c t (ix3 a b n) : EReal) = Cert.Layer.out (argX m c) (argW m c) (argS m c)
      (grow t ⟨8 * a.val + b.val, by omega⟩) ⟨512 * (t.val % 8) + n.val, by omega⟩ := by
  unfold yAt Cert.Layer.out Cert.Row.lin
  refine (pay7_eq _ _ _ _ a b n).trans ?_
  refine congrArg₂ (fun p q : EReal => p * q) (congrArg₂ (fun p q : EReal => p * q) (Finset.sum_congr rfl fun k _ => congrArg₂ (fun p q : EReal => p * q) ?_ ?_) ?_) (sTile_eq m c t n)
  · exact (cbB_eq _ _ (isSign m c t) _ k).trans (congrArg (fun X => Cert.Row.code X k) (xTile_eq m c t _))
  · refine Eq.trans ?_ (wFull_eq m c _ k)
    refine congrArg (wFull m c) (funext fun i => Fin.ext ?_)
    match i with
    | ⟨0, _⟩ => show 512 * (nOf (grid0.coords t)).val + n.val = 512 * (t.val % 8) + n.val; rw [nOf_val]
    | ⟨1, _⟩ => rfl
  · exact (xsB_eq _ _ (isSign m c t) _).trans (congrArg _ (xTile_eq m c t _))

/-! ## The arrays -/

/-- The output array, as the kernel lays it out: rows in groups of eight. -/
def G4 (c : Dev nD) : Vec Ideal S384x8x4096 .bf16 := fun i =>
  Cert.Layer.out (argX m c) (argW m c) (argS m c)
    ⟨8 * (i 0).val + (i 1).val, by have h0 : (i 0).val < 384 := (i 0).isLt; have h1 : (i 1).val < 8 := (i 1).isLt; omega⟩ (i 2)
/-- The codes. -/
def G5 (c : Dev nD) : Vec Ideal S1x3072x3584 .i8 := fun i => Cert.Layer.codes (argX m c) (i 1) (i 2)
/-- The steps, as the kernel lays them out: in one row. -/
def G6 (c : Dev nD) : Vec Ideal S1x3072 .f32 := fun i => Cert.Layer.step (argX m c) (i 1)

theorem arr4 (c : Dev nD) : (dats m 0 c).arrAt 4 cfg0.N = G4 m c := by
  refine (dats m 0 c).arrAt_eq_of_covers 4 (G4 m c) (by decide +kernel) fun t hf y => ?_
  have hi := index4 t
  refine Eq.trans (congrFun (after0_4 m c t) _) ?_
  refine Eq.trans (congrArg (yAt m c t) (show _ = ix3 (y 0) (y 1) (y 2) from ?_)) ((yAt_eq m c t (y 0) (y 1) (y 2)).trans ?_)
  · funext a; match a with | ⟨0, _⟩ => rfl | ⟨1, _⟩ => rfl | ⟨2, _⟩ => rfl
  · unfold G4
    refine congrArg₂ (Cert.Layer.out _ _ _) (Fin.ext ?_) (Fin.ext ?_)
    · show 512 * (t.val / 8) + (8 * (y 0).val + (y 1).val) = 8 * (win0_4.index t 0 * 64 + 1 * (y 0).val) + (win0_4.index t 1 * 8 + 1 * (y 1).val)
      rw [hi.1, hi.2.1]; omega
    · show 512 * (t.val % 8) + (y 2).val = win0_4.index t 2 * 512 + 1 * (y 2).val
      rw [hi.2.2]; omega

theorem arr5 (c : Dev nD) : (dats m 0 c).arrAt 5 cfg0.N = G5 m c := by
  refine (dats m 0 c).arrAt_eq_of_covers 5 (G5 m c) (by decide +kernel) fun t hf y => ?_
  have hi := index5 t
  refine Eq.trans (congrFun (after0_5 m c t) _) ?_
  refine Eq.trans (congrArg (xcAt m c t) (show _ = ix3 0 (y 1) (y 2) from ?_)) ((xcAt_eq m c t (y 1) (y 2)).trans ?_)
  · funext a
    match a with
    | ⟨0, _⟩ => exact Fin.ext (by have : (y 0).val < 1 := (y 0).isLt; show (y 0).val = 0; omega)
    | ⟨1, _⟩ => rfl
    | ⟨2, _⟩ => rfl
  · unfold G5
    refine congrArg₂ (Cert.Layer.codes _) (Fin.ext ?_) (Fin.ext ?_)
    · show 512 * (t.val / 8) + (y 1).val = win0_5.index t 1 * 512 + 1 * (y 1).val
      rw [hi.2.1]; omega
    · show (y 2).val = win0_5.index t 2 * 3584 + 1 * (y 2).val
      rw [hi.2.2]; omega

theorem arr6 (c : Dev nD) : (dats m 0 c).arrAt 6 cfg0.N = G6 m c := by
  refine (dats m 0 c).arrAt_eq_of_covers 6 (G6 m c) (by decide +kernel) fun t hf y => ?_
  have hi := index6 t
  refine Eq.trans (congrFun (after0_6 m c t) _) ?_
  refine Eq.trans (congrArg (xrAt m c t) (show _ = ix2 0 (y 1) from ?_)) ((xrAt_eq m c t (y 1)).trans ?_)
  · funext a
    match a with
    | ⟨0, _⟩ => exact Fin.ext (by have : (y 0).val < 1 := (y 0).isLt; show (y 0).val = 0; omega)
    | ⟨1, _⟩ => rfl
  · unfold G6
    refine congrArg (Cert.Layer.step _) (Fin.ext ?_)
    show 512 * (t.val / 8) + (y 1).val = win0_6.index t 1 * 512 + 1 * (y 1).val
    rw [hi.2]; omega

/-! ## The results -/

/-- The host's reshape of the output array is the layer's output. -/
theorem tail_v2 (c : Dev nD) (i : S1x3072x4096.Idx) :
    (Pipeline.afterTail₀ cfgs (dats m) 0 (V0 m) [hostOps1] c main_v2 : Vec Ideal S1x3072x4096 .bf16) i
      = Cert.Layer.out (argX m c) (argW m c) (argS m c) (i 1) (i 2) := by
  have e : Pipeline.afterTail₀ cfgs (dats m) 0 (V0 m) [hostOps1] c main_v2
      = (shapeCast S1x3072x4096 (G4 m c) shapeCasts_S384x8x4096_S1x3072x4096 : Vec Ideal S1x3072x4096 .bf16) := by
    unfold Pipeline.afterTail₀
    simp only [hostOps1, List.flatten_cons, List.flatten_nil, List.append_nil]
    after_reads_simp
    exact congrArg (fun x : Vec Ideal S384x8x4096 .bf16 => shapeCast S1x3072x4096 x shapeCasts_S384x8x4096_S1x3072x4096)
      ((Pipeline.withArrays_arr spec0 launch0.win.arr_inj c _ _ 4).trans (arr4 m c))
  rw [e]
  have h0 : (i 0).val < 1 := (i 0).isLt
  have h1 : (i 1).val < 3072 := (i 1).isLt
  refine (shapeCast_apply _ _ _ (ix3 ⟨(i 1).val / 8, by omega⟩ ⟨(i 1).val % 8, by omega⟩ (i 2)) ?_).trans ?_
  · rw [Shape.rowMajor_val_three, Shape.rowMajor_val_three]
    show ((i 1).val / 8 * 8 + (i 1).val % 8) * 4096 + (i 2).val = ((i 0).val * 3072 + (i 1).val) * 4096 + (i 2).val
    omega
  · exact congrArg (fun r => Cert.Layer.out (argX m c) (argW m c) (argS m c) r (i 2))
      (Fin.ext (by show 8 * ((i 1).val / 8) + (i 1).val % 8 = (i 1).val; omega))

/-- The host's reshape of the steps is the layer's steps. -/
theorem tail_v3 (c : Dev nD) (i : S1x3072x1.Idx) :
    (Pipeline.afterTail₀ cfgs (dats m) 0 (V0 m) [hostOps1] c main_v3 : Vec Ideal S1x3072x1 .f32) i = Cert.Layer.step (argX m c) (i 1) := by
  have e : Pipeline.afterTail₀ cfgs (dats m) 0 (V0 m) [hostOps1] c main_v3
      = (shapeCast S1x3072x1 (G6 m c) shapeCasts_S1x3072_S1x3072x1 : Vec Ideal S1x3072x1 .f32) := by
    unfold Pipeline.afterTail₀
    simp only [hostOps1, List.flatten_cons, List.flatten_nil, List.append_nil]
    after_reads_simp
    exact congrArg (fun x : Vec Ideal S1x3072 .f32 => shapeCast S1x3072x1 x shapeCasts_S1x3072_S1x3072x1)
      ((Pipeline.withArrays_arr spec0 launch0.win.arr_inj c _ _ 6).trans (arr6 m c))
  rw [e]
  have h0 : (i 0).val < 1 := (i 0).isLt
  have h2 : (i 2).val < 1 := (i 2).isLt
  refine (shapeCast_apply _ _ _ (ix2 0 (i 1)) ?_).trans rfl
  rw [Shape.rowMajor_val_two, Shape.rowMajor_val_three]
  show 0 * 3072 + (i 1).val = ((i 0).val * 3072 + (i 1).val) * 1 + (i 2).val
  omega

/-- The kernel's program runs and leaves the layer's output, codes and steps; its arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2) = (fun i => Cert.Layer.out (argX m c) (argW m c) (argS m c) (i 1) (i 2) : Vec Ideal S1x3072x4096 .bf16)
      ∧ r.2.mem ((c.tc : Thread nD τ).loc main_v1_1) = (fun i => Cert.Layer.codes (argX m c) (i 1) (i 2) : Vec Ideal S1x3072x3584 .i8)
      ∧ r.2.mem ((c.tc : Thread nD τ).loc main_v3) = (fun i => Cert.Layer.step (argX m c) (i 1) : Vec Ideal S1x3072x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h.1 c).2 main_v2 (Pipeline.mem_restRefs_of main_v2 (by decide) (by decide))).trans (funext (tail_v2 m c)),
        ((h.1 c).1 5).trans (arr5 m c),
        ((h.1 c).2 main_v3 (Pipeline.mem_restRefs_of main_v3 (by decide) (by decide))).trans (funext (tail_v3 m c)),
        h.2 c⟩)
    (θ_run_and (run_main m ρ) (unchanged m ρ))

end Cert.KernelIdeal.Hand

end
-- ==== Proof.Hadamard.lean ====
/-
The sign matrix by doubling: [[A, A], [A, −A]] of the 2^k×2^k sign matrix is the 2^(k+1)×2^(k+1) one.
-/
module

public import proofs.«01_k».proof.Proof.Spec
public import Idealize.ShloMosaic.Lib.Pipeline.Value
public import Idealize.ShloMosaic.PureOps.Ideal.Laws

@[expose] public section

noncomputable section

namespace Cert.Row

open Idealize.ShloMosaic Idealize.ShloMosaic.ValueIdx

theorem neg_comm (k i j : ℕ) : neg k i j = neg k j i := by
  induction k with
  | zero => rfl
  | succ k ih => rw [neg, neg, ih, Bool.and_comm]

/-- A bit at or above `k` of the row does not matter. -/
theorem neg_add (k n i j : ℕ) (h : k ≤ n) : neg k (2 ^ n + i) j = neg k i j := by
  induction k with
  | zero => rfl
  | succ k ih => rw [neg, neg, ih (by omega), Nat.testBit_two_pow_add_gt (by omega)]

/-- In the upper half of the rows the sign is the half matrix's. -/
theorem neg_low (k i j : ℕ) (h : i < 2 ^ k) : neg (k + 1) i j = neg k i j := by
  rw [neg, Nat.testBit_lt_two_pow h, Bool.false_and, Bool.xor_false]

theorem testBit_high (k i : ℕ) (h : i < 2 ^ k) : (2 ^ k + i).testBit k = true := by
  rw [Nat.testBit_two_pow_add_eq, Nat.testBit_lt_two_pow h]; rfl

/-- In the lower right quarter it is the half matrix's, flipped. -/
theorem neg_high (k i j : ℕ) (hi : i < 2 ^ k) (hj : j < 2 ^ k) : neg (k + 1) (2 ^ k + i) (2 ^ k + j) = !neg k i j := by
  rw [neg, testBit_high k i hi, testBit_high k j hj, neg_add k k i _ le_rfl, neg_comm, neg_add k k j _ le_rfl, neg_comm, Bool.and_self, Bool.xor_true]

/-- The 2^k×2^k sign matrix. -/
def IsHad (k n : ℕ) (A : Shape.Idx ⟨2, ![n, n]⟩ → EReal) : Prop := ∀ i j : Fin n, A (ix2 i j) = if neg k i.val j.val then -1 else 1

/-- Doubling. -/
theorem IsHad.double {k n n2 : ℕ} (hn : n = 2 ^ k) (h2 : n2 = 2 * n) {A B : Shape.Idx ⟨2, ![n, n]⟩ → EReal} (hA : IsHad k n A)
    (hB : ∀ i, B i = -A i)
    (c1 : Shape.Concatenates [⟨2, ![n, n]⟩, ⟨2, ![n, n]⟩] ⟨2, ![n, n2]⟩ 1)
    (c2 : Shape.Concatenates [⟨2, ![n, n2]⟩, ⟨2, ![n, n2]⟩] ⟨2, ![n2, n2]⟩ 0) :
    IsHad (k + 1) n2 (concatenate ⟨2, ![n2, n2]⟩ 0
      [⟨⟨2, ![n, n2]⟩, concatenate ⟨2, ![n, n2]⟩ 1 [⟨⟨2, ![n, n]⟩, A⟩, ⟨⟨2, ![n, n]⟩, A⟩] c1⟩,
       ⟨⟨2, ![n, n2]⟩, concatenate ⟨2, ![n, n2]⟩ 1 [⟨⟨2, ![n, n]⟩, A⟩, ⟨⟨2, ![n, n]⟩, B⟩] c1⟩] c2) := by
  -- a column of two pieces side by side
  have left (C D : Shape.Idx ⟨2, ![n, n]⟩ → EReal) (i : Fin n) (j : Fin n2) (j' : Fin n) (h : j'.val = j.val) :
      concatenate ⟨2, ![n, n2]⟩ 1 [⟨⟨2, ![n, n]⟩, C⟩, ⟨⟨2, ![n, n]⟩, D⟩] c1 (ix2 i j) = C (ix2 i j') :=
    concatenate_pair_apply_left (t := ⟨2, ![n, n2]⟩) (s₁ := ⟨2, ![n, n]⟩) (s₂ := ⟨2, ![n, n]⟩) 1 C D c1 (ix2 i j) rfl (ix2 i j')
      fun b => match b with | ⟨0, _⟩ => rfl | ⟨1, _⟩ => h
  have right (C D : Shape.Idx ⟨2, ![n, n]⟩ → EReal) (i : Fin n) (j : Fin n2) (j' : Fin n) (h : j'.val + n = j.val) :
      concatenate ⟨2, ![n, n2]⟩ 1 [⟨⟨2, ![n, n]⟩, C⟩, ⟨⟨2, ![n, n]⟩, D⟩] c1 (ix2 i j) = D (ix2 i j') :=
    concatenate_pair_apply_right (t := ⟨2, ![n, n2]⟩) (s₁ := ⟨2, ![n, n]⟩) (s₂ := ⟨2, ![n, n]⟩) 1 C D c1 (ix2 i j) rfl rfl (ix2 i j')
      (fun b => match b with | ⟨0, _⟩ => fun _ => rfl | ⟨1, _⟩ => fun e => absurd rfl e) h
  intro i j
  by_cases hi : i.val < n
  · refine (concatenate_pair_apply_left (t := ⟨2, ![n2, n2]⟩) (s₁ := ⟨2, ![n, n2]⟩) (s₂ := ⟨2, ![n, n2]⟩) 0 _ _ c2 (ix2 i j) rfl
      (ix2 ⟨i.val, hi⟩ j) fun b => match b with | ⟨0, _⟩ => rfl | ⟨1, _⟩ => rfl).trans ?_
    rw [neg_low k _ _ (hn ▸ hi)]
    by_cases hj : j.val < n
    · exact (left A A ⟨i.val, hi⟩ j ⟨j.val, hj⟩ rfl).trans (hA _ _)
    · refine (right A A ⟨i.val, hi⟩ j ⟨j.val - n, by omega⟩ (by show j.val - n + n = j.val; omega)).trans ((hA _ _).trans ?_)
      have e : j.val = 2 ^ k + (j.val - n) := by omega
      conv_rhs => rw [e, neg_comm, neg_add k k _ _ le_rfl, neg_comm]
  · have ei : i.val = 2 ^ k + (i.val - n) := by omega
    have hi' : i.val - n < n := by omega
    refine (concatenate_pair_apply_right (t := ⟨2, ![n2, n2]⟩) (s₁ := ⟨2, ![n, n2]⟩) (s₂ := ⟨2, ![n, n2]⟩) 0 _ _ c2 (ix2 i j) rfl rfl
      (ix2 ⟨i.val - n, hi'⟩ j) (fun b => match b with | ⟨0, _⟩ => fun e => absurd rfl e | ⟨1, _⟩ => fun _ => rfl)
      (by show i.val - n + n = i.val; omega)).trans ?_
    by_cases hj : j.val < n
    · refine (left A B ⟨i.val - n, hi'⟩ j ⟨j.val, hj⟩ rfl).trans ((hA _ _).trans ?_)
      conv_rhs => rw [neg_comm, neg_low k _ _ (hn ▸ hj), neg_comm, ei, neg_add k k _ _ le_rfl]
    · have ej : j.val = 2 ^ k + (j.val - n) := by omega
      refine (right A B ⟨i.val - n, hi'⟩ j ⟨j.val - n, by omega⟩ (by show j.val - n + n = j.val; omega)).trans ((hB _).trans ?_)
      rw [hA]
      conv_rhs => rw [ei, ej, neg_high k _ _ (hn ▸ hi') (by omega)]
      show -(if neg k (i.val - n) (j.val - n) = true then (-1 : EReal) else 1) = _
      cases neg k (i.val - n) (j.val - n) <;> simp

end Cert.Row

end
-- ==== Proof.RefHost.lean ====
/-
What the reference's host operations leave in each buffer the layer needs: the sign matrix, then the rotated activations,
their steps and their codes, as arrays.
-/
module

public import proofs.«01_k».proof.Proof.Hadamard
public import proofs.«01_k».proof.Proof.Gen.ReferenceIdeal.Frame
public import Idealize.ShloMosaic.Lib.StableHlo.RunRead
public import Idealize.ShloMosaic.Lib.IdealHost

@[expose] public section

set_option maxRecDepth 16384

noncomputable section

namespace Cert.ReferenceIdeal.Hand

open Idealize.ShloMosaic Idealize.ShloMosaic.TcCoe Idealize.ShloMosaic.Tactic
open Idealize.SL Idealize.SL.Sem
open Idealize.ShloMosaic.ValueIdx
open Cert.ReferenceIdeal.Gen
open Cert.Row (IsHad)

variable (X : Valuation τ sig (Elt Ideal))

/-! ## The sign matrix -/

/-- The 1×1 matrix, and the first doubling. -/
theorem had1 : IsHad 1 2 (StableHlo.after (hostOps0 ++ hostOps0_1) X (Proc.devRef .tc main_v3)) := by
  simp only [hostOps0, hostOps0_1, List.cons_append, List.nil_append]
  after_reads_simp
  refine IsHad.double (k := 0) (n := 1) rfl rfl (fun i j => ?_) (fun i => rfl) concatenates_S1x1_S1x1_S1x2_d1 concatenates_S1x2_S1x2_S2x2_d0
  exact Ideal.ofBits_one_f32

theorem had2 (h : IsHad 1 2 (X (Proc.devRef .tc main_v3))) : IsHad 2 4 (StableHlo.after (hostOps0_2 ++ hostOps0_3) X (Proc.devRef .tc main_v5)) := by
  simp only [hostOps0_2, hostOps0_3, List.cons_append, List.nil_append]
  after_reads_simp
  exact h.double rfl rfl (fun i => rfl) concatenates_S2x2_S2x2_S2x4_d1 concatenates_S2x4_S2x4_S4x4_d0

theorem had3 (h : IsHad 2 4 (X (Proc.devRef .tc main_v5))) : IsHad 3 8 (StableHlo.after (hostOps0_4 ++ hostOps0_5) X (Proc.devRef .tc main_v7)) := by
  simp only [hostOps0_4, hostOps0_5, List.cons_append, List.nil_append]
  after_reads_simp
  exact h.double rfl rfl (fun i => rfl) concatenates_S4x4_S4x4_S4x8_d1 concatenates_S4x8_S4x8_S8x8_d0

theorem had4 (h : IsHad 3 8 (X (Proc.devRef .tc main_v7))) : IsHad 4 16 (StableHlo.after (hostOps0_6 ++ hostOps0_7) X (Proc.devRef .tc main_v9)) := by
  simp only [hostOps0_6, hostOps0_7, List.cons_append, List.nil_append]
  after_reads_simp
  exact h.double rfl rfl (fun i => rfl) concatenates_S8x8_S8x8_S8x16_d1 concatenates_S8x16_S8x16_S16x16_d0

theorem had5 (h : IsHad 4 16 (X (Proc.devRef .tc main_v9))) : IsHad 5 32 (StableHlo.after (hostOps0_8 ++ hostOps0_9) X (Proc.devRef .tc main_v11)) := by
  simp only [hostOps0_8, hostOps0_9, List.cons_append, List.nil_append]
  after_reads_simp
  exact h.double rfl rfl (fun i => rfl) concatenates_S16x16_S16x16_S16x32_d1 concatenates_S16x32_S16x32_S32x32_d0

theorem had6 (h : IsHad 5 32 (X (Proc.devRef .tc main_v11))) : IsHad 6 64 (StableHlo.after (hostOps0_10 ++ hostOps0_11) X (Proc.devRef .tc main_v13)) := by
  simp only [hostOps0_10, hostOps0_11, List.cons_append, List.nil_append]
  after_reads_simp
  exact h.double rfl rfl (fun i => rfl) concatenates_S32x32_S32x32_S32x64_d1 concatenates_S32x64_S32x64_S64x64_d0

theorem had7 (h : IsHad 6 64 (X (Proc.devRef .tc main_v13))) : IsHad 7 128 (StableHlo.after (hostOps0_12 ++ hostOps0_13) X (Proc.devRef .tc main_v15)) := by
  simp only [hostOps0_12, hostOps0_13, List.cons_append, List.nil_append]
  after_reads_simp
  exact h.double rfl rfl (fun i => rfl) concatenates_S64x64_S64x64_S64x128_d1 concatenates_S64x128_S64x128_S128x128_d0

/-- The host operations that build the sign matrix. -/
abbrev opsA : List (HloOp τ sig (Elt Ideal)) :=
  (hostOps0 ++ hostOps0_1) ++ ((hostOps0_2 ++ hostOps0_3) ++ ((hostOps0_4 ++ hostOps0_5) ++ ((hostOps0_6 ++ hostOps0_7)
    ++ ((hostOps0_8 ++ hostOps0_9) ++ ((hostOps0_10 ++ hostOps0_11) ++ (hostOps0_12 ++ hostOps0_13))))))
/-- They leave the 128×128 sign matrix -/
theorem A_v15 : IsHad 7 128 (StableHlo.after opsA X (Proc.devRef .tc main_v15)) := by
  simp only [opsA, StableHlo.after_append]
  exact had7 _ (had6 _ (had5 _ (had4 _ (had3 _ (had2 _ (had1 X))))))

/-- and the activations, widened. -/
theorem A_v0 : StableHlo.after opsA X (Proc.devRef .tc main_v0)
    = (extf .f32 (X (Proc.devRef .tc main_arg0) : FVec Ideal S1x3072x3584 .bf16) bitsLt_bf16_f32 : FVec Ideal S1x3072x3584 .f32) := by
  simp only [opsA, hostOps0, hostOps0_1, hostOps0_2, hostOps0_3, hostOps0_4, hostOps0_5, hostOps0_6, hostOps0_7, hostOps0_8, hostOps0_9,
    hostOps0_10, hostOps0_11, hostOps0_12, hostOps0_13, List.cons_append, List.nil_append]
  after_reads_simp

/-- They leave the weight scales alone. -/
theorem A_arg2 : StableHlo.after opsA X (Proc.devRef .tc main_arg2) = X (Proc.devRef .tc main_arg2) := by
  simp only [opsA, hostOps0, hostOps0_1, hostOps0_2, hostOps0_3, hostOps0_4, hostOps0_5, hostOps0_6, hostOps0_7, hostOps0_8, hostOps0_9,
    hostOps0_10, hostOps0_11, hostOps0_12, hostOps0_13, List.cons_append, List.nil_append]
  after_reads_simp

/-! ## Rotation and quantisation, as array operations -/

/-- The activations rotated by a 128×128 matrix times the normalising factor, 128 columns at a time. -/
def rotA (x : FVec Ideal S1x3072x3584 .f32) (h : FVec Ideal S128x128 .f32) : FVec Ideal S1x3072x3584 .f32 :=
  shapeCast S1x3072x3584
    (Host.dotGeneral dot_S1x3072x28x128_S128x128_S1x3072x28x128_3_0_012_1_n_n none
      (shapeCast S1x3072x28x128 x shapeCasts_S1x3072x3584_S1x3072x28x128)
      (mulf h (broadcastInDim S128x128 ![] bcast_S_S128x128 (constant S_ .f32 0x3DB504F3#32))))
    shapeCasts_S1x3072x28x128_S1x3072x3584

/-- The greatest absolute value of each row. -/
def amaxA (r : FVec Ideal S1x3072x3584 .f32) : FVec Ideal S1x3072x1 .f32 :=
  broadcastInDim S1x3072x1 ![0, 1] bcast_S1x3072_S1x3072x1_0_1
    (Host.reduce FloatOps.maximumf (Host.absf r) (constant (F := Ideal) S_ .f32 0xFF800000#32) reducesTo_S1x3072x3584_S1x3072_d2 h_S_)

/-- Each row's step. -/
def stepA (a : FVec Ideal S1x3072x1 .f32) : FVec Ideal S1x3072x1 .f32 :=
  select (cmpf .ogt a (broadcastInDim S1x3072x1 ![] bcast_S_S1x3072x1 (constant S_ .f32 0x00000000#32)))
    (Host.divf a (broadcastInDim S1x3072x1 ![] bcast_S_S1x3072x1 (constant S_ .f32 0x40E00000#32)))
    (broadcastInDim S1x3072x1 ![] bcast_S_S1x3072x1 (constant S_ .f32 0x3F800000#32))

/-- The codes. -/
def codeA (r : FVec Ideal S1x3072x3584 .f32) (s : FVec Ideal S1x3072x1 .f32) : FVec Ideal S1x3072x3584 .f32 :=
  minimumf (broadcastInDim S1x3072x3584 ![] bcast_S_S1x3072x3584 (sitofp .f32 (constantI S_ 32 7#32)))
    (maximumf (broadcastInDim S1x3072x3584 ![] bcast_S_S1x3072x3584 (sitofp .f32 (constantI S_ 32 4294967288#32)))
      (Host.roundeven (Host.divf r (broadcastInDim S1x3072x3584 ![0, 1, 2] bcast_S1x3072x1_S1x3072x3584_0_1_2 s))))

/-! ## What each stretch of operations leaves -/

theorem s14_v20 : StableHlo.after hostOps0_14 X (Proc.devRef .tc main_v20)
    = rotA (X (Proc.devRef .tc main_v0)) (X (Proc.devRef .tc main_v15)) := by
  after_reads_simp
  rfl

theorem s14_v25 : StableHlo.after hostOps0_14 X (Proc.devRef .tc main_v25)
    = cmpf .ogt (amaxA (rotA (X (Proc.devRef .tc main_v0)) (X (Proc.devRef .tc main_v15))))
        (broadcastInDim S1x3072x1 ![] bcast_S_S1x3072x1 (constant S_ .f32 0x00000000#32)) := by
  after_reads_simp
  rfl

theorem s14_v27 : StableHlo.after hostOps0_14 X (Proc.devRef .tc main_v27)
    = Host.divf (amaxA (rotA (X (Proc.devRef .tc main_v0)) (X (Proc.devRef .tc main_v15))))
        (broadcastInDim S1x3072x1 ![] bcast_S_S1x3072x1 (constant S_ .f32 0x40E00000#32)) := by
  after_reads_simp
  rfl

theorem s14_cst4 : StableHlo.after hostOps0_14 X (Proc.devRef .tc main_cst_4) = (constant S_ .f32 0x3F800000#32 : FVec Ideal S_ .f32) := by
  after_reads_simp

theorem s15_v28 : StableHlo.after hostOps0_15 X (Proc.devRef .tc main_v28)
    = (select (X (Proc.devRef .tc main_v25) : Vec Ideal S1x3072x1 .i1) (X (Proc.devRef .tc main_v27) : FVec Ideal S1x3072x1 .f32)
        (broadcastInDim S1x3072x1 ![] bcast_S_S1x3072x1 (X (Proc.devRef .tc main_cst_4) : FVec Ideal S_ .f32)) : FVec Ideal S1x3072x1 .f32) := by
  after_reads_simp
  rfl

theorem s15_v20 : StableHlo.after hostOps0_15 X (Proc.devRef .tc main_v20) = X (Proc.devRef .tc main_v20) := by
  after_reads_simp

/-- The operations from the steps to the codes. -/
abbrev opsC : List (HloOp τ sig (Elt Ideal)) := hostOps0_16 ++ (hostOps0_17 ++ (hostOps0_18 ++ (hostOps0_19 ++ hostOps0_20)))

theorem C_v28 : StableHlo.after opsC X (Proc.devRef .tc main_v28) = X (Proc.devRef .tc main_v28) := by
  simp only [opsC, hostOps0_16, hostOps0_17, hostOps0_18, hostOps0_19, hostOps0_20, List.cons_append, List.nil_append]
  after_reads_simp

theorem C_v33 : StableHlo.after opsC X (Proc.devRef .tc main_v33)
    = (shapeCast S3072x3584 (codeA (X (Proc.devRef .tc main_v20)) (X (Proc.devRef .tc main_v28))) shapeCasts_S1x3072x3584_S3072x3584 : FVec Ideal S3072x3584 .f32) := by
  simp only [opsC, hostOps0_16, hostOps0_17, hostOps0_18, hostOps0_19, hostOps0_20, List.cons_append, List.nil_append]
  after_reads_simp
  rfl

theorem C_v34 : StableHlo.after opsC X (Proc.devRef .tc main_v34)
    = (shapeCast S3072x1 (X (Proc.devRef .tc main_v28) : FVec Ideal S1x3072x1 .f32) shapeCasts_S1x3072x1_S3072x1 : FVec Ideal S3072x1 .f32) := by
  simp only [opsC, hostOps0_16, hostOps0_17, hostOps0_18, hostOps0_19, hostOps0_20, List.cons_append, List.nil_append]
  after_reads_simp
  rfl

/-- All from the rotation on. -/
abbrev opsB : List (HloOp τ sig (Elt Ideal)) := hostOps0_14 ++ (hostOps0_15 ++ opsC)

/-- The steps -/
theorem B_v28 : StableHlo.after opsB X (Proc.devRef .tc main_v28)
    = stepA (amaxA (rotA (X (Proc.devRef .tc main_v0)) (X (Proc.devRef .tc main_v15)))) := by
  rw [opsB, StableHlo.after_append, StableHlo.after_append, C_v28, s15_v28, s14_v25, s14_v27, s14_cst4]
  rfl

/-- the codes, -/
theorem B_v33 : StableHlo.after opsB X (Proc.devRef .tc main_v33)
    = (shapeCast S3072x3584 (codeA (rotA (X (Proc.devRef .tc main_v0)) (X (Proc.devRef .tc main_v15)))
        (stepA (amaxA (rotA (X (Proc.devRef .tc main_v0)) (X (Proc.devRef .tc main_v15)))))) shapeCasts_S1x3072x3584_S3072x3584 : FVec Ideal S3072x3584 .f32) := by
  rw [opsB, StableHlo.after_append, StableHlo.after_append, C_v33, s15_v28, s15_v20, s14_v20, s14_v25, s14_v27, s14_cst4]
  rfl

/-- the steps as a column -/
theorem B_v34 : StableHlo.after opsB X (Proc.devRef .tc main_v34)
    = (shapeCast S3072x1 (stepA (amaxA (rotA (X (Proc.devRef .tc main_v0)) (X (Proc.devRef .tc main_v15))))) shapeCasts_S1x3072x1_S3072x1 : FVec Ideal S3072x1 .f32) := by
  rw [opsB, StableHlo.after_append, StableHlo.after_append, C_v34, s15_v28, s14_v25, s14_v27, s14_cst4]
  rfl

/-- and the weight scales as a row. -/
theorem B_v35 : StableHlo.after opsB X (Proc.devRef .tc main_v35)
    = (broadcastInDim S1x4096 ![1] bcast_S4096_S1x4096_1 (X (Proc.devRef .tc main_arg2) : FVec Ideal S4096 .f32) : FVec Ideal S1x4096 .f32) := by
  simp only [opsB, opsC, hostOps0_14, hostOps0_15, hostOps0_16, hostOps0_17, hostOps0_18, hostOps0_19, hostOps0_20, List.cons_append, List.nil_append]
  after_reads_simp

end Cert.ReferenceIdeal.Hand

end
-- ==== Proof.RefVals.lean ====
/-
The reference's rotation and quantisation read at an entry: the layer's rotated row, step and codes.
-/
module

public import proofs.«01_k».proof.Proof.RefHost
public import Idealize.ShloMosaic.Lib.ValueLayout

@[expose] public section

set_option maxRecDepth 16384
-- index bounds inside the statements
set_option backward.proofsInPublic true

noncomputable section

namespace Cert.Row

open Idealize.ShloMosaic

/-- The normalising factor is a nonnegative real. -/
theorem unit_real : ∃ r : ℝ, 0 ≤ r ∧ unit = (r : EReal) := by
  refine ⟨_, ?_, by unfold unit; simp [Ideal.ofBits, Ideal.ieee, -EReal.coe_mul]; rfl⟩
  positivity

/-- So it comes out of a sum. -/
theorem sum_mul_unit {ι : Type} (s : Finset ι) (f : ι → EReal) : (∑ i ∈ s, f i) * unit = ∑ i ∈ s, f i * unit := by
  obtain ⟨r, h0, hr⟩ := unit_real
  classical
  induction s using Finset.induction_on with
  | empty => rw [Finset.sum_empty, Finset.sum_empty, zero_mul]
  | insert a s ha ih =>
    rw [Finset.sum_insert ha, Finset.sum_insert ha, ← ih, hr]
    exact EReal.right_distrib_of_nonneg_of_ne_top (by exact_mod_cast h0) (EReal.coe_ne_top r) _ _

end Cert.Row

namespace Cert.ReferenceIdeal.Hand

open Idealize.ShloMosaic Idealize.ShloMosaic.TcCoe Idealize.ShloMosaic.Tactic
open Idealize.SL Idealize.SL.Sem
open Idealize.ShloMosaic.ValueIdx
open Cert.ReferenceIdeal.Gen
open Cert.Row (IsHad)

/-- A row of the activations. -/
def rowR (x : FVec Ideal S1x3072x3584 .f32) (r : Fin 3072) : Fin 3584 → EReal := fun k => x (ix3 0 r k)

/-- A rotated entry. -/
theorem rotA_eq (x : FVec Ideal S1x3072x3584 .f32) (h : FVec Ideal S128x128 .f32) (hh : IsHad 7 128 h) (r : Fin 3072) (k : Fin 3584) :
    (rotA x h (ix3 0 r k) : EReal) = Cert.Row.rotv (rowR x r) k := by
  unfold rotA Cert.Row.rotv
  refine (shapeCast_apply _ shapeCasts_S1x3072x28x128_S1x3072x3584 (ix3 0 r k) (ix4 0 r ⟨k.val / 128, by omega⟩ ⟨k.val % 128, by omega⟩) ?_).trans ?_
  · rw [Shape.rowMajor_val_four, Shape.rowMajor_val_three]
    show ((0 * 3072 + r.val) * 28 + k.val / 128) * 128 + k.val % 128 = (0 * 3072 + r.val) * 3584 + k.val
    omega
  refine (Ideal.dotGeneral_apply (φ₁ := .f32) (φ₂ := .f32) dot_S1x3072x28x128_S128x128_S1x3072x28x128_3_0_012_1_n_n none _ _ _ _).trans ?_
  rw [Cert.Row.sum_mul_unit, ← Equiv.sum_comp (contrEquiv1 dot_S1x3072x28x128_S128x128_S1x3072x28x128_3_0_012_1_n_n 128 rfl rfl).symm]
  refine Finset.sum_congr rfl fun i _ => ?_
  rw [mul_assoc]
  refine congrArg₂ (fun p q : EReal => p * q) ?_ ?_
  · refine shapeCast_apply _ shapeCasts_S1x3072x3584_S1x3072x28x128 _ (ix3 0 r ⟨128 * (k.val / 128) + i.val, by omega⟩) ?_
    rw [Shape.rowMajor_val_four, Shape.rowMajor_val_three]
    show (0 * 3072 + r.val) * 3584 + (128 * (k.val / 128) + i.val) = ((0 * 3072 + r.val) * 28 + k.val / 128) * 128 + i.val
    omega
  · refine congrArg₂ (fun p q : EReal => p * q) ?_ rfl
    refine Eq.trans (congrArg h (funext fun a => ?_)) (hh i ⟨k.val % 128, by omega⟩)
    match a with
    | ⟨0, _⟩ => rfl
    | ⟨1, _⟩ => rfl

/-- A row's greatest absolute value. -/
theorem amaxA_eq (y : FVec Ideal S1x3072x3584 .f32) (r : Fin 3072) :
    (amaxA y (ix3 0 r 0) : EReal) = (Finset.univ : Finset (Fin 3584)).fold max (Ideal.ofBits .f32 0xFF800000#32)
      (fun k : Fin 3584 => max (y (ix3 0 r k) : EReal) (-(y (ix3 0 r k)))) := by
  unfold amaxA
  refine (broadcastInDim_apply _ _ _ (ix3 0 r 0) (ix2 0 r) fun a => match a with | ⟨0, _⟩ => rfl | ⟨1, _⟩ => rfl).trans ?_
  refine (Host.reduce_eq_fold_single (max : EReal → EReal → EReal) (Host.absf y) (constant (F := Ideal) S_ .f32 0xFF800000#32)
    reducesTo_S1x3072x3584_S1x3072_d2 (by decide) h_S_ (ix2 0 r)).trans ?_
  refine congrArg (fun g : Fin 3584 → EReal => (Finset.univ : Finset (Fin 3584)).fold max (Ideal.ofBits .f32 0xFF800000#32) g) (funext fun k => ?_)
  refine congrArg (fun i => max (y i : EReal) (-(y i))) (funext fun a => ?_)
  match a with
  | ⟨0, _⟩ => rfl
  | ⟨1, _⟩ => rfl
  | ⟨2, _⟩ => rfl

/-- A row's step. -/
theorem stepA_eq (a : FVec Ideal S1x3072x1 .f32) (r : Fin 3072) : (stepA a (ix3 0 r 0) : EReal) = Cert.Row.stepv (a (ix3 0 r 0)) := by
  unfold stepA Cert.Row.stepv
  show Scalar.select (BitVec.ofBool (decide (Ideal.ofBits .f32 0x00000000#32 < a (ix3 0 r 0)))) _ _ = _
  unfold Scalar.select
  by_cases h : Ideal.ofBits .f32 0x00000000#32 < a (ix3 0 r 0)
  · rw [if_pos h, decide_eq_true h]; rfl
  · rw [if_neg h, decide_eq_false h]; rfl

/-- A code. -/
theorem codeA_eq (y : FVec Ideal S1x3072x3584 .f32) (s : FVec Ideal S1x3072x1 .f32) (r : Fin 3072) (k : Fin 3584) :
    (codeA y s (ix3 0 r k) : EReal) = Cert.Row.codev (y (ix3 0 r k)) (s (ix3 0 r 0)) := by
  have hb : broadcastInDim S1x3072x3584 ![0, 1, 2] bcast_S1x3072x1_S1x3072x3584_0_1_2 s (ix3 0 r k) = s (ix3 0 r 0) :=
    broadcastInDim_apply _ _ _ _ _ fun a => match a with
      | ⟨0, _⟩ => rfl
      | ⟨1, _⟩ => rfl
      | ⟨2, _⟩ => rfl
  have h7 : (((7#32 : BitVec 32).toInt : ℝ) : EReal) = ((7 : ℝ) : EReal) := by
    rw [show (7#32 : BitVec 32).toInt = 7 by decide]; norm_num
  have h8 : (((4294967288#32 : BitVec 32).toInt : ℝ) : EReal) = ((-8 : ℝ) : EReal) := by
    rw [show (4294967288#32 : BitVec 32).toInt = -8 by decide]; norm_num
  unfold Cert.Row.codev
  rw [← hb, ← h7, ← h8]
  rfl

section Row
variable (x : FVec Ideal S1x3072x3584 .f32) (h : FVec Ideal S128x128 .f32) (hh : IsHad 7 128 h)
include hh

/-- The reference's step of a row is the layer's -/
theorem step_eq (r : Fin 3072) : (stepA (amaxA (rotA x h)) (ix3 0 r 0) : EReal) = Cert.Row.step (rowR x r) := by
  refine (stepA_eq _ r).trans (congrArg Cert.Row.stepv ((amaxA_eq _ r).trans ?_))
  unfold Cert.Row.amaxv
  refine congrArg (fun g : Fin 3584 → EReal => (Finset.univ : Finset (Fin 3584)).fold max (Ideal.ofBits .f32 0xFF800000#32) g) (funext fun k => ?_)
  exact congrArg (fun v : EReal => max v (-v)) (rotA_eq x h hh r k)

/-- and so are its codes. -/
theorem code_eq (r : Fin 3072) (k : Fin 3584) :
    (codeA (rotA x h) (stepA (amaxA (rotA x h))) (ix3 0 r k) : EReal) = Cert.Row.code (rowR x r) k :=
  (codeA_eq _ _ r k).trans (congrArg₂ Cert.Row.codev (rotA_eq x h hh r k) (step_eq x h hh r))

end Row

end Cert.ReferenceIdeal.Hand

end
-- ==== Proof.RefBody.lean ====
/-
What the reference's one block computes: the bytes of the codes, and the scaled product with the weights. The sum of
integer products is far inside the range where the integer product is exact.
-/
module

public import proofs.«01_k».proof.Proof.Spec
public import proofs.«01_k».proof.Proof.Gen.ReferenceIdeal.Skeleton
public import Idealize.ShloMosaic.Lib.IntMxu
public import Idealize.ShloMosaic.Lib.ValueLayout

@[expose] public section

set_option maxRecDepth 16384
-- index bounds inside the statements
set_option backward.proofsInPublic true

noncomputable section

namespace Cert.Row

open Idealize.ShloMosaic

/-- The byte of an integer between -8 and 7 is that integer. -/
theorem toInt_fptosi (z : ℤ) (h1 : -8 ≤ z) (h2 : z ≤ 7) : (Ideal.fptosi 8 ((z : ℝ) : EReal)).toInt = z := by
  have e : max (-((2 ^ (8 - 1) : ℕ) : ℤ)) (min (((2 ^ (8 - 1) : ℕ) : ℤ) - 1) z) = z := by norm_num; omega
  rw [Ideal.fptosi, Ideal.toIntClamped_coe, Int.floor_intCast, Int.ceil_intCast, ite_self, e, BitVec.toInt_ofInt]
  apply Int.bmod_eq_of_le <;> omega

/-- A sum of integers as an extended real. -/
theorem sum_coe {ι : Type} (s : Finset ι) (f : ι → ℤ) : (((∑ i ∈ s, f i : ℤ) : ℝ) : EReal) = ∑ i ∈ s, ((f i : ℝ) : EReal) := by
  classical
  induction s using Finset.induction_on with
  | empty => simp
  | insert a s ha ih => rw [Finset.sum_insert ha, Finset.sum_insert ha, ← ih]; push_cast; rfl

end Cert.Row

namespace Cert.ReferenceIdeal.Hand

open Idealize.ShloMosaic Idealize.ShloMosaic.ValueIdx
open Cert.ReferenceIdeal.Gen

/-- A code as a byte. -/
theorem pay1_eq (q : FVec Ideal S3072x3584 .f32) (i : S3072x3584.Idx) : k0_pay1 (F := Ideal) q i = Ideal.fptosi 8 (q i) := by
  unfold k0_pay1
  exact congrArg (Ideal.fptosi 8) (shapeCast_apply q shapeCasts_S3072x3584_S3072x3584 i i rfl)

/-- The same, in the result's layout. -/
theorem pay2_eq (q : FVec Ideal S3072x3584 .f32) (r : Fin 3072) (k : Fin 3584) :
    k0_pay2 (F := Ideal) q (ix3 0 r k) = Ideal.fptosi 8 (q (ix2 r k)) := by
  unfold k0_pay2
  refine (shapeCast_apply _ shapeCasts_S3072x3584_S1x3072x3584 (ix3 0 r k) (ix2 r k) ?_).trans (pay1_eq q _)
  rw [Shape.rowMajor_val_two, Shape.rowMajor_val_three]
  show r.val * 3584 + k.val = (0 * 3072 + r.val) * 3584 + k.val
  omega

/-- The integer product of a row of codes with a row of weights is exact. -/
theorem dot_eq (q : FVec Ideal S3072x3584 .f32) (w : IVec S4096x3584 8) (r : Fin 3072) (n : Fin 4096) (z : Fin 3584 → ℤ)
    (hz : ∀ k, -8 ≤ z k ∧ z k ≤ 7 ∧ (q (ix2 r k) : EReal) = ((z k : ℝ) : EReal)) :
    (matmulI8 IntMxuNumerics.v7x dot_S3072x3584_S4096x3584_S3072x4096_1_1_0_0_n_n (k0_pay1 (F := Ideal) q) w
      (constantI S3072x4096 32 0#32) (ix2 r n)).toInt = ∑ k : Fin 3584, z k * (w (ix2 n k)).toInt := by
  have term : ∀ k : Fin 3584,
      (k0_pay1 (F := Ideal) q (dot_S3072x3584_S4096x3584_S3072x4096_1_1_0_0_n_n.lhsIdx (ix2 r n)
          ((contrEquiv1 dot_S3072x3584_S4096x3584_S3072x4096_1_1_0_0_n_n 3584 rfl rfl).symm k))).toInt
        * (w (dot_S3072x3584_S4096x3584_S3072x4096_1_1_0_0_n_n.rhsIdx (ix2 r n)
          ((contrEquiv1 dot_S3072x3584_S4096x3584_S3072x4096_1_1_0_0_n_n 3584 rfl rfl).symm k))).toInt
      = z k * (w (ix2 n k)).toInt := by
    intro k
    have hl : dot_S3072x3584_S4096x3584_S3072x4096_1_1_0_0_n_n.lhsIdx (ix2 r n)
        ((contrEquiv1 dot_S3072x3584_S4096x3584_S3072x4096_1_1_0_0_n_n 3584 rfl rfl).symm k) = ix2 r k := by
      funext a
      match a with
      | ⟨0, _⟩ => rfl
      | ⟨1, _⟩ => rfl
    have hr : dot_S3072x3584_S4096x3584_S3072x4096_1_1_0_0_n_n.rhsIdx (ix2 r n)
        ((contrEquiv1 dot_S3072x3584_S4096x3584_S3072x4096_1_1_0_0_n_n 3584 rfl rfl).symm k) = ix2 n k := by
      funext a
      match a with
      | ⟨0, _⟩ => rfl
      | ⟨1, _⟩ => rfl
    rw [hl, hr, pay1_eq, (hz k).2.2, Cert.Row.toInt_fptosi _ (hz k).1 (hz k).2.1]
  refine (matmulI8_toInt IntMxuNumerics.v7x dot_S3072x3584_S4096x3584_S3072x4096_1_1_0_0_n_n _ w _ (ix2 r n) rfl ?_).trans ?_
  · unfold absDotI8
    rw [← Equiv.sum_comp (contrEquiv1 dot_S3072x3584_S4096x3584_S3072x4096_1_1_0_0_n_n 3584 rfl rfl).symm]
    refine (Finset.sum_le_card_nsmul _ _ 1024 fun k _ => ?_).trans ?_
    · rw [term k, Int.natAbs_mul]
      have h := hz k
      exact Nat.mul_le_mul (by omega : (z k).natAbs ≤ 8) (natAbs_toInt_i8_le _)
    · rw [Finset.card_univ, Fintype.card_fin]
      show 3584 * 1024 ≤ 2 ^ 24 - 1
      norm_num
  · unfold dotI8
    rw [← Equiv.sum_comp (contrEquiv1 dot_S3072x3584_S4096x3584_S3072x4096_1_1_0_0_n_n 3584 rfl rfl).symm]
    exact Finset.sum_congr rfl fun k _ => term k

/-- An entry of the output: the product of the row of codes with the row of weights, scaled by the two steps. -/
theorem pay3_eq (q : FVec Ideal S3072x3584 .f32) (w : IVec S4096x3584 8) (s : FVec Ideal S3072x1 .f32) (ws : FVec Ideal S1x4096 .f32)
    (r : Fin 3072) (n : Fin 4096) (hq : ∀ k, ∃ z : ℤ, -8 ≤ z ∧ z ≤ 7 ∧ (q (ix2 r k) : EReal) = ((z : ℝ) : EReal)) :
    (k0_pay3 (F := Ideal) q w s ws (ix3 0 r n) : EReal)
      = (∑ k : Fin 3584, (q (ix2 r k) : EReal) * (((w (ix2 n k)).toInt : ℝ) : EReal)) * (s (ix2 r 0) : EReal) * (ws (ix2 0 n) : EReal) := by
  choose z hz using hq
  unfold k0_pay3
  refine Eq.trans (shapeCast_apply (s := S3072x4096) (t := S1x3072x4096) _ shapeCasts_S3072x4096_S1x3072x4096 (ix3 0 r n) (ix2 r n) ?_) ?_
  · rw [Shape.rowMajor_val_two, Shape.rowMajor_val_three]
    show r.val * 4096 + n.val = (0 * 3072 + r.val) * 4096 + n.val
    omega
  refine congrArg₂ (fun p q : EReal => p * q) (congrArg₂ (fun p q : EReal => p * q) ?_ ?_) ?_
  · refine Eq.trans (congrArg (fun t : ℤ => ((t : ℝ) : EReal)) (dot_eq q w r n z hz)) ?_
    rw [Cert.Row.sum_coe]
    refine Finset.sum_congr rfl fun k _ => ?_
    rw [(hz k).2.2]
    push_cast
    rfl
  · refine (broadcastTo_apply _ broadcasts_S3072x1_S3072x4096 _ (ix2 r 0) fun a => ?_).trans ?_
    · match a with
      | ⟨0, _⟩ => rfl
      | ⟨1, _⟩ => rfl
    · exact shapeCast_apply s shapeCasts_S3072x1_S3072x1 (ix2 r 0) (ix2 r 0) rfl
  · refine (broadcastTo_apply _ broadcasts_S1x4096_S3072x4096 _ (ix2 0 n) fun a => ?_).trans ?_
    · match a with
      | ⟨0, _⟩ => rfl
      | ⟨1, _⟩ => rfl
    · exact shapeCast_apply ws shapeCasts_S1x4096_S1x4096 (ix2 0 n) (ix2 0 n) rfl

end Cert.ReferenceIdeal.Hand

end
-- ==== Proof.RefRun.lean ====
/-
What the reference stages, and what its three arrays hold after the run: the layer's output, codes and steps.
-/
module

public import proofs.«01_k».proof.Proof.Layer
public import proofs.«01_k».proof.Proof.RefVals
public import proofs.«01_k».proof.Proof.RefBody
public import proofs.«01_k».proof.Proof.Gen.ReferenceIdeal.Value
public import Idealize.ShloMosaic.Lib.Pipeline.ValueKit.Geometry

@[expose] public section

set_option maxRecDepth 16384
-- index bounds inside the statements
set_option backward.proofsInPublic true

noncomputable section

namespace Cert.ReferenceIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.ReferenceIdeal.Gen
open Cert.Row (IsHad)

variable (m : (ℓ : Loc nD τ sig) → Buf (Elt Ideal) ℓ)

/-- The three arguments. -/
abbrev argX (c : Dev nD) : Vec Ideal S1x3072x3584 .bf16 := m ((c.tc : Thread nD τ).loc main_arg0)
abbrev argW (c : Dev nD) : Vec Ideal S4096x3584 .i8 := m ((c.tc : Thread nD τ).loc main_arg1)
abbrev argS (c : Dev nD) : Vec Ideal S4096 .f32 := m ((c.tc : Thread nD τ).loc main_arg2)

/-! ## What is staged -/

/-- Memory after the sign matrix is built. -/
def memA (c : Dev nD) : Valuation τ sig (Elt Ideal) := StableHlo.after opsA (fun b => m (c, b))

/-- The host operations are the two stretches. -/
theorem ops_eq : List.flatten [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19, hostOps0_20]
    = opsA ++ opsB := by
  simp only [opsA, opsB, opsC, List.flatten_cons, List.flatten_nil, List.append_nil, List.append_assoc]

/-- The region is entered after both. -/
theorem V_eq (c : Dev nD) (b : Ref sig .tc) : V m c b = StableHlo.after opsB (memA m c) (Proc.devRef .tc b) :=
  (congrArg (fun l => StableHlo.after l (fun b => m (c, b)) (Proc.devRef .tc b)) ops_eq).trans
    (congrFun (StableHlo.after_append opsA opsB (fun b => m (c, b))) (Proc.devRef .tc b))

/-- The widened activations are the activations. -/
theorem rowR_eq (c : Dev nD) (r : Fin 3072) : rowR (memA m c (Proc.devRef .tc main_v0)) r = Cert.Layer.row (argX m c) r := by
  rw [show memA m c (Proc.devRef .tc main_v0) = _ from A_v0 (fun b => m (c, b))]
  rfl

/-- The steps, -/
theorem V_v28 (c : Dev nD) (r : Fin 3072) : (V m c main_v28 (ix3 0 r 0) : EReal) = Cert.Layer.step (argX m c) r := by
  refine Eq.trans (congrFun ((V_eq m c main_v28).trans (B_v28 _)) _) ?_
  exact (step_eq _ _ (A_v15 (fun b => m (c, b))) r).trans (congrArg Cert.Row.step (rowR_eq m c r))

/-- the codes, -/
theorem V_v33 (c : Dev nD) (r : Fin 3072) (k : Fin 3584) :
    (V m c main_v33 (ix2 r k) : EReal) = Cert.Row.code (Cert.Layer.row (argX m c) r) k := by
  refine Eq.trans (congrFun ((V_eq m c main_v33).trans (B_v33 _)) _) ?_
  refine Eq.trans (shapeCast_apply _ shapeCasts_S1x3072x3584_S3072x3584 (ix2 r k) (ix3 0 r k) ?_) ?_
  · rw [Shape.rowMajor_val_two, Shape.rowMajor_val_three]
    show (0 * 3072 + r.val) * 3584 + k.val = r.val * 3584 + k.val
    omega
  · exact (code_eq _ _ (A_v15 (fun b => m (c, b))) r k).trans (congrArg (fun x => Cert.Row.code x k) (rowR_eq m c r))

/-- the steps as a column -/
theorem V_v34 (c : Dev nD) (r : Fin 3072) : (V m c main_v34 (ix2 r 0) : EReal) = Cert.Layer.step (argX m c) r := by
  refine Eq.trans (congrFun ((V_eq m c main_v34).trans (B_v34 _)) _) ?_
  refine Eq.trans (shapeCast_apply _ shapeCasts_S1x3072x1_S3072x1 (ix2 r 0) (ix3 0 r 0) ?_) ?_
  · rw [Shape.rowMajor_val_two, Shape.rowMajor_val_three]
    show (0 * 3072 + r.val) * 1 + 0 = r.val * 1 + 0
    omega
  · exact (step_eq _ _ (A_v15 (fun b => m (c, b))) r).trans (congrArg Cert.Row.step (rowR_eq m c r))

/-- and the weight scales as a row. -/
theorem V_v35 (c : Dev nD) (n : Fin 4096) : (V m c main_v35 (ix2 0 n) : EReal) = argS m c (ix1 n) := by
  refine Eq.trans (congrFun ((V_eq m c main_v35).trans (B_v35 _)) _) ?_
  refine Eq.trans (broadcastInDim_apply _ _ _ (ix2 0 n) (ix1 n) fun a => match a with | ⟨0, _⟩ => rfl) ?_
  exact congrFun (A_arg2 (fun b => m (c, b))) (ix1 n)

/-! ## The one block of each window is the array -/

theorem read0 (t : Fin cfg0.N) (A : Vec Ideal S3072x3584 .f32) : ((cfg0.win 0).blk t).view.read (Elt Ideal) A = A := by
  funext i
  refine (View.read_apply _ _).trans (congrArg A (funext fun a => Fin.ext ?_))
  match a with
  | ⟨0, _⟩ => show 0 * 3072 + 1 * (i 0).val = (i 0).val; omega
  | ⟨1, _⟩ => show 0 * 3584 + 1 * (i 1).val = (i 1).val; omega

theorem read1 (t : Fin cfg0.N) (A : Vec Ideal S3072x1 .f32) : ((cfg0.win 1).blk t).view.read (Elt Ideal) A = A := by
  funext i
  refine (View.read_apply _ _).trans (congrArg A (funext fun a => Fin.ext ?_))
  match a with
  | ⟨0, _⟩ => show 0 * 3072 + 1 * (i 0).val = (i 0).val; omega
  | ⟨1, _⟩ => show 0 * 1 + 1 * (i 1).val = (i 1).val; omega

theorem read2 (t : Fin cfg0.N) (A : Vec Ideal S4096x3584 .i8) : ((cfg0.win 2).blk t).view.read (Elt Ideal) A = A := by
  funext i
  refine (View.read_apply _ _).trans (congrArg A (funext fun a => Fin.ext ?_))
  match a with
  | ⟨0, _⟩ => show 0 * 4096 + 1 * (i 0).val = (i 0).val; omega
  | ⟨1, _⟩ => show 0 * 3584 + 1 * (i 1).val = (i 1).val; omega

theorem read3 (t : Fin cfg0.N) (A : Vec Ideal S1x4096 .f32) : ((cfg0.win 3).blk t).view.read (Elt Ideal) A = A := by
  funext i
  refine (View.read_apply _ _).trans (congrArg A (funext fun a => Fin.ext ?_))
  match a with
  | ⟨0, _⟩ => show 0 * 1 + 1 * (i 0).val = (i 0).val; omega
  | ⟨1, _⟩ => show 0 * 4096 + 1 * (i 1).val = (i 1).val; omega

theorem iblk0 (c : Dev nD) (t : Fin cfg0.N) : (iblk m c 0 t : Vec Ideal S3072x3584 .f32) = V m c main_v33 := read0 t (V m c main_v33)
theorem iblk1 (c : Dev nD) (t : Fin cfg0.N) : (iblk m c 1 t : Vec Ideal S3072x1 .f32) = V m c main_v34 := read1 t (V m c main_v34)
theorem iblk2 (c : Dev nD) (t : Fin cfg0.N) : (iblk m c 2 t : Vec Ideal S4096x3584 .i8) = argW m c := (read2 t (V m c main_arg1)).trans (V_main_arg1 m c)
theorem iblk3 (c : Dev nD) (t : Fin cfg0.N) : (iblk m c 3 t : Vec Ideal S1x4096 .f32) = V m c main_v35 := read3 t (V m c main_v35)

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The body stores one value into each output, from whole loads. -/
theorem out4_eq (x0 : Vec Ideal S3072x3584 .f32) (x1 : Vec Ideal S3072x1 .f32) (x2 : Vec Ideal S4096x3584 .i8) (x3 : Vec Ideal S1x4096 .f32) :
    out0_4 x0 x1 x2 x3 = k0_pay3 x0 x2 x1 x3 := by
  unfold out0_4
  refine (View.canon_unit_zero zeros3 _ _).trans ?_
  rw [View.ld_unit_zero (S := S3072x3584) zeros2, View.ld_unit_zero (S := S4096x3584) zeros2,
    View.ld_unit_zero (S := S3072x1) zeros2, View.ld_unit_zero (S := S1x4096) zeros2]

theorem out5_eq (x0 : Vec Ideal S3072x3584 .f32) (x1 : Vec Ideal S3072x1 .f32) (x2 : Vec Ideal S4096x3584 .i8) (x3 : Vec Ideal S1x4096 .f32) :
    out0_5 x0 x1 x2 x3 = k0_pay2 x0 := by
  unfold out0_5
  refine (View.canon_unit_zero zeros3 _ _).trans ?_
  rw [View.ld_unit_zero (S := S3072x3584) zeros2]

/-! ## What the arrays hold after the run -/

/-- The output -/
def G4 (c : Dev nD) : Vec Ideal S1x3072x4096 .bf16 := fun i => Cert.Layer.out (argX m c) (argW m c) (argS m c) (i 1) (i 2)
/-- and the codes. -/
def G5 (c : Dev nD) : Vec Ideal S1x3072x3584 .i8 := fun i => Cert.Layer.codes (argX m c) (i 1) (i 2)

/-- An entry of what the body leaves in the first output. -/
theorem block4 (c : Dev nD) (t : Fin cfg0.N) (r : Fin 3072) (n : Fin 4096) :
    (k0_pay3 (F := Ideal) (iblk m c 0 t) (iblk m c 2 t) (iblk m c 1 t) (iblk m c 3 t) (ix3 0 r n) : EReal)
      = Cert.Layer.out (argX m c) (argW m c) (argS m c) r n := by
  have hq : ∀ k, ((iblk m c 0 t : Vec Ideal S3072x3584 .f32) (ix2 r k) : EReal) = Cert.Row.code (Cert.Layer.row (argX m c) r) k :=
    fun k => (congrFun (iblk0 m c t) _).trans (V_v33 m c r k)
  refine (pay3_eq _ _ _ _ r n fun k => ?_).trans ?_
  · obtain ⟨z, h1, h2, h⟩ := Cert.Row.codev_int (Cert.Row.rotv (Cert.Layer.row (argX m c) r) k) (Cert.Row.step (Cert.Layer.row (argX m c) r))
    exact ⟨z, h1, h2, (hq k).trans h⟩
  · unfold Cert.Layer.out Cert.Row.lin
    refine congrArg₂ (fun p q : EReal => p * q) (congrArg₂ (fun p q : EReal => p * q) (Finset.sum_congr rfl fun k _ => ?_) ?_) ?_
    · exact congrArg₂ (fun p q : EReal => p * q) (hq k) (congrArg (fun b : BitVec 8 => ((b.toInt : ℝ) : EReal)) (congrFun (iblk2 m c t) _))
    · exact (congrFun (iblk1 m c t) _).trans (V_v34 m c r)
    · exact (congrFun (iblk3 m c t) _).trans (V_v35 m c n)

/-- An index of a three-axis array whose first axis has one entry. -/
theorem ix3_eta {p q : ℕ} (i : (⟨3, ![1, p, q]⟩ : Shape).Idx) : i = ix3 0 (i 1) (i 2) := by
  have h0 : (i 0).val < 1 := (i 0).isLt
  funext a
  match a with
  | ⟨0, _⟩ => exact Fin.ext (by show (i 0).val = 0; omega)
  | ⟨1, _⟩ => rfl
  | ⟨2, _⟩ => rfl

theorem arr4 (c : Dev nD) : (dats m 0 c).arrAt 4 cfg0.N = G4 m c := by
  refine Dat.arrAt_eq_of_after_last (dats m 0 c) 4 t0_0 (by decide +kernel) (G4 m c) fun j => ?_
  refine (congrFun ((after0_4 m c t0_0).trans (out4_eq _ _ _ _)) j).trans ?_
  rw [ix3_eta j]
  exact block4 m c t0_0 (j 1) (j 2)

theorem arr5 (c : Dev nD) : (dats m 0 c).arrAt 5 cfg0.N = G5 m c := by
  refine Dat.arrAt_eq_of_after_last (dats m 0 c) 5 t0_0 (by decide +kernel) (G5 m c) fun j => ?_
  refine (congrFun ((after0_5 m c t0_0).trans (out5_eq _ _ _ _)) j).trans ?_
  rw [ix3_eta j]
  refine (pay2_eq _ (j 1) (j 2)).trans ?_
  exact congrArg (Ideal.fptosi 8) ((congrFun (iblk0 m c t0_0) _).trans (V_v33 m c (j 1) (j 2)))

/-- The steps, as the reference's third result. -/
theorem step_arr (c : Dev nD) : V m c main_v28 = (fun i => Cert.Layer.step (argX m c) (i 1) : Vec Ideal S1x3072x1 .f32) := by
  funext i
  have h2 : (i 2).val < 1 := (i 2).isLt
  have e : i = ix3 0 (i 1) 0 := (ix3_eta i).trans (congrArg (ix3 0 (i 1)) (Fin.ext (by show (i 2).val = 0; omega)))
  rw [e]
  exact V_v28 m c (i 1)

/-- The reference runs and leaves the layer's output, codes and steps; its arguments are unchanged. -/
theorem run (ρ : Dev nD → PrngReg) : θ_run defs (onTc (τ := τ) (main (F := Ideal))) ⟨m, fun _ => 0, ρ⟩ (fun r => ∀ c : Dev nD,
      r.2.mem ((c.tc : Thread nD τ).loc main_v36_0) = (fun i => Cert.Layer.out (argX m c) (argW m c) (argS m c) (i 1) (i 2) : Vec Ideal S1x3072x4096 .bf16)
      ∧ r.2.mem ((c.tc : Thread nD τ).loc main_v36_1) = (fun i => Cert.Layer.codes (argX m c) (i 1) (i 2) : Vec Ideal S1x3072x3584 .i8)
      ∧ r.2.mem ((c.tc : Thread nD τ).loc main_v28) = (fun i => Cert.Layer.step (argX m c) (i 1) : Vec Ideal S1x3072x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(Value.post4 m r h c).trans (arr4 m c),
        (Value.post5 m r h c).trans (arr5 m c),
        ((h c).2 main_v28 (Pipeline.mem_restRefs_of main_v28 (by decide) (by decide))).trans (step_arr m c),
        Value.kept_main_arg0 m r h c, Value.kept_main_arg1 m r h c, Value.kept_main_arg2 m r h c⟩)
    (run_main m ρ)

end Cert.ReferenceIdeal.Hand

end
-- ==== Proof.Equation.lean ====
/-
The equation: from the same arguments the kernel and the reference leave the same three results.
-/
module

public import proofs.«01_k».proof.Defs
public import proofs.«01_k».proof.Proof.Arrays
public import proofs.«01_k».proof.Proof.RefRun

@[expose] public section

noncomputable section

namespace Cert.Proof

open Idealize.ShloMosaic Idealize.SL.Sem

/-- Both leave the layer's output, codes and steps of their arguments, which are the same. -/
theorem algebraic : Cert.algebraic_KernelIdeal_ReferenceIdeal (hKernelIdeal := Cert.KernelIdeal.Gen.facts)
    (hReferenceIdeal := Cert.ReferenceIdeal.Gen.facts) := by
  intro m g m' g' _ h
  refine ⟨_, _, _, Cert.KernelIdeal.Hand.run m g, ?_⟩
  refine (θ_run _ _ _).mono (fun r hr c => ?_) (Cert.ReferenceIdeal.Hand.run m' g')
  obtain ⟨h0, h1, h2⟩ := h c
  have e0 : Cert.ReferenceIdeal.Hand.argX m' c = Cert.KernelIdeal.Hand.argX m c := h0
  have e1 : Cert.ReferenceIdeal.Hand.argW m' c = Cert.KernelIdeal.Hand.argW m c := h1
  have e2 : Cert.ReferenceIdeal.Hand.argS m' c = Cert.KernelIdeal.Hand.argS m c := h2
  obtain ⟨r0, r1, r2, ra⟩ := hr c
  rw [e0, e1, e2] at r0
  rw [e0] at r1 r2
  exact ⟨r0, r1, r2, ra⟩

end Cert.Proof

end
-- ==== Proof.lean ====
module

public import proofs.«01_k».proof.Defs
public import proofs.«01_k».proof.Proof.Same
public import proofs.«01_k».proof.Proof.HandFrame
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-- The claims, each from the module that proves it. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, trivial, algebraic⟩

end Cert.Proof

end
